-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![32, 128, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![2, 128, 512]⟩ ⟨3, ![32, 128, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S32x128x64x64 : Shape := ⟨4, ![32, 128, 64, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S32x128x64x64 : S_.BroadcastsInDim S32x128x64x64 (![] : Fin 0 → Fin S32x128x64x64.rank)

variable [Facts]

def fn {F : FTy → Type} [FloatOps F] (main_arg0 : FVec F S2x128x512 .bf16) (main_arg1 : FVec F S512x256 .bf16) (main_arg2 : FVec F S32x128x64x64 .bf16) (main_arg3 : FVec F S32x128x64x64 .bf16) (main_arg4 : FVec F S256x512 .bf16) : IVec S2x128x512 1 × IVec S512x256 1 × IVec S32x128x64x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S32x128x64x64 .bf16 := Host.absf main_arg2
  let main_cst_1 : FVec F S_ .bf16 := constant S_ .bf16 0x7F80#16
  let main_v7 : FVec F S32x128x64x64 .bf16 := broadcastInDim S32x128x64x64 ![] bcast_S_S32x128x64x64 main_cst_1
  let main_v8 : IVec S32x128x64x64 1 := cmpf .olt main_v6 main_v7
  (main_v2, main_v5, main_v8)
-- ==== Pre_finite_ReferenceIdeal.lean ====
abbrev S32x128x512 : Shape := ⟨3, ![32, 128, 512]⟩
abbrev S512x4096 : Shape := ⟨2, ![512, 4096]⟩
abbrev S32x128x64x64 : Shape := ⟨4, ![32, 128, 64, 64]⟩
abbrev S4096x512 : Shape := ⟨2, ![4096, 512]⟩
abbrev S_ : Shape := ⟨0, ![]⟩

class Facts : Prop where
  bcast_S_S32x128x512 : S_.BroadcastsInDim S32x128x512 (![] : Fin 0 → Fin S32x128x512.rank)
  bcast_S_S512x4096 : S_.BroadcastsInDim S512x4096 (![] : Fin 0 → Fin S512x4096.rank)
  bcast_S_S32x128x64x64 : S_.BroadcastsInDim S32x128x64x64 (![] : Fin 0 → Fin S32x128x64x64.rank)

variable [Facts]

def fn {F : FTy → Type} [FloatOps F] (main_arg0 : FVec F S32x128x512 .bf16) (main_arg1 : FVec F S512x4096 .bf16) (main_arg2 : FVec F S32x128x64x64 .bf16) (main_arg3 : FVec F S32x128x64x64 .bf16) (main_arg4 : FVec F S4096x512 .bf16) : IVec S32x128x512 1 × IVec S512x4096 1 × IVec S32x128x64x64 1 :=
  let main_v0 : FVec F S32x128x512 .bf16 := Host.absf main_arg0
  let main_cst : FVec F S_ .bf16 := constant S_ .bf16 0x7F80#16
  let main_v1 : FVec F S32x128x512 .bf16 := broadcastInDim S32x128x512 ![] bcast_S_S32x128x512 main_cst
  let main_v2 : IVec S32x128x512 1 := cmpf .olt main_v0 main_v1
  let main_v3 : FVec F S512x4096 .bf16 := Host.absf main_arg1
  let main_cst_0 : FVec F S_ .bf16 := constant S_ .bf16 0x7F80#16
  let main_v4 : FVec F S512x4096 .bf16 := broadcastInDim S512x4096 ![] bcast_S_S512x4096 main_cst_0
  let main_v5 : IVec S512x4096 1 := cmpf .olt main_v3 main_v4
  let main_v6 : FVec F S32x128x64x64 .bf16 := Host.absf main_arg2
  let main_cst_1 : FVec F S_ .bf16 := constant S_ .bf16 0x7F80#16
  let main_v7 : FVec F S32x128x64x64 .bf16 := broadcastInDim S32x128x64x64 ![] bcast_S_S32x128x64x64 main_cst_1
  let main_v8 : IVec S32x128x64x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S32x128x64x64 : Shape := ⟨4, ![32, 128, 64, 64]⟩
abbrev S256x512 : Shape := ⟨2, ![256, 512]⟩
abbrev S_ : Shape := ⟨0, ![]⟩
abbrev S2x128x64x64 : Shape := ⟨4, ![2, 128, 64, 64]⟩
abbrev S64x2x128x64 : Shape := ⟨4, ![64, 2, 128, 64]⟩
abbrev S64x256x64 : Shape := ⟨3, ![64, 256, 64]⟩
abbrev S16x512x256 : Shape := ⟨3, ![16, 512, 256]⟩
abbrev S16x256x512 : Shape := ⟨3, ![16, 256, 512]⟩
abbrev S8 : Shape := ⟨1, ![8]⟩
abbrev S7 : Shape := ⟨1, ![7]⟩
abbrev S1x512x256 : Shape := ⟨3, ![1, 512, 256]⟩
abbrev S1x256x512 : Shape := ⟨3, ![1, 256, 512]⟩
abbrev S256x256 : Shape := ⟨2, ![256, 256]⟩
abbrev S1 : Shape := ⟨1, ![1]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩
abbrev S64x512 : Shape := ⟨2, ![64, 512]⟩

abbrev nBuf : Space → Nat
  | .hbm => 40
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S32x128x64x64, .bf16⟩
  | .hbm, ⟨3, _⟩ => ⟨S32x128x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x64x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x64x64, .bf16⟩
  | .hbm, ⟨33, _⟩ => ⟨S64x2x128x64, .bf16⟩
  | .hbm, ⟨34, _⟩ => ⟨S64x256x64, .bf16⟩
  | .hbm, ⟨35, _⟩ => ⟨S64x2x128x64, .bf16⟩
  | .hbm, ⟨36, _⟩ => ⟨S64x256x64, .bf16⟩
  | .hbm, ⟨37, _⟩ => ⟨S256x512, .bf16⟩
  | .hbm, ⟨38, _⟩ => ⟨S256x512, .f32⟩
  | .hbm, ⟨39, _⟩ => ⟨S2x128x512, .f32⟩
  | .local _ .vmem, ⟨0, _⟩ => ⟨S256x512, .bf16⟩
  | .local _ .vmem, ⟨1, _⟩ => ⟨S512x256, .bf16⟩
  | .local _ .vmem, ⟨2, _⟩ => ⟨S256x512, .bf16⟩
  | .local _ .vmem, ⟨3, _⟩ => ⟨S64x256x64, .bf16⟩
  | .local _ .vmem, ⟨4, _⟩ => ⟨S64x256x64, .bf16⟩
  | .local _ .vmem, ⟨5, _⟩ => ⟨S256x512, .f32⟩
  | .local _ .vmem, ⟨6, _⟩ => ⟨S16x512x256, .bf16⟩
  | .local _ .vmem, ⟨7, _⟩ => ⟨S16x256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 2 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
@[reducible] def k0_t1_loop : Scf.Loop 32 :=
  let c0_i32_38 : BitVec 32 := 0#32
  let c9_i32 : BitVec 32 := 9#32
  let v81 : BitVec 32 := Scalar.addi c0_i32_38 c9_i32
  let c1_i32_39 : BitVec 32 := 1#32
  ⟨c0_i32_38, v81, c1_i32_39⟩
def k0_cond1 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c1_i32_50 : BitVec 32 := 1#32
  let v92 : BitVec 1 := Scalar.cmpi .sge arg16 c1_i32_50
  let v93 : BitVec 32 := Scalar.extui v92
  let c0_i32_51 : BitVec 32 := 0#32
  let v94 : BitVec 1 := Scalar.cmpi .ne v93 c0_i32_51
  v94

def k0_off1 (k0_t1 : Fin k0_t1_loop.trips) : Fin 1 → Nat :=
  let c0_i32_38 : BitVec 32 := 0#32
  let c1_i32_39 : BitVec 32 := 1#32
  let arg16 : BitVec 32 := Scf.iv c0_i32_38 c1_i32_39 k0_t1
  let c1_i32_44 : BitVec 32 := 1#32
  let v83 : BitVec 32 := Scalar.subi arg16 c1_i32_44
  let c0_i32_45 : BitVec 32 := 0#32
  let v84 : BitVec 32 := Scalar.maxsi v83 c0_i32_45
  ![v84.toNat]
def k0_off2 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c1_i32_44 : BitVec 32 := 1#32
  let v83 : BitVec 32 := Scalar.subi arg16 c1_i32_44
  let c0_i32_45 : BitVec 32 := 0#32
  let v84 : BitVec 32 := Scalar.maxsi v83 c0_i32_45
  let c1_i32_75 : BitVec 32 := 1#32
  let v131 : BitVec 32 := Scalar.addi v84 c1_i32_75
  let c0_i32_78 : BitVec 32 := 0#32
  let c0_i32_79 : BitVec 32 := 0#32
  ![v131.toNat, 0, 0]
def k0_off3 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c1_i32_44 : BitVec 32 := 1#32
  let v83 : BitVec 32 := Scalar.subi arg16 c1_i32_44
  let c0_i32_45 : BitVec 32 := 0#32
  let v84 : BitVec 32 := Scalar.maxsi v83 c0_i32_45
  let c0_i32_80 : BitVec 32 := 0#32
  let c0_i32_81 : BitVec 32 := 0#32
  ![v84.toNat, 0, 0]
def k0_cond2 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c8_i32_52 : BitVec 32 := 8#32
  let v95 : BitVec 1 := Scalar.cmpi .slt arg16 c8_i32_52
  let v96 : BitVec 32 := Scalar.extui v95
  let c0_i32_53 : BitVec 32 := 0#32
  let v97 : BitVec 1 := Scalar.cmpi .ne v96 c0_i32_53
  v97

def k0_off4 (k0_t1 : Fin k0_t1_loop.trips) : Fin 1 → Nat :=
  let c0_i32_38 : BitVec 32 := 0#32
  let c1_i32_39 : BitVec 32 := 1#32
  let arg16 : BitVec 32 := Scf.iv c0_i32_38 c1_i32_39 k0_t1
  let c7_i32 : BitVec 32 := 7#32
  let v85 : BitVec 32 := Scalar.minsi arg16 c7_i32
  ![v85.toNat]
def k0_off5 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c7_i32 : BitVec 32 := 7#32
  let v85 : BitVec 32 := Scalar.minsi arg16 c7_i32
  let c1_i32_75 : BitVec 32 := 1#32
  let v131 : BitVec 32 := Scalar.addi v85 c1_i32_75
  let c0_i32_78 : BitVec 32 := 0#32
  let c0_i32_79 : BitVec 32 := 0#32
  ![v131.toNat, 0, 0]
def k0_off6 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c7_i32 : BitVec 32 := 7#32
  let v85 : BitVec 32 := Scalar.minsi arg16 c7_i32
  let c0_i32_80 : BitVec 32 := 0#32
  let c0_i32_81 : BitVec 32 := 0#32
  ![v85.toNat, 0, 0]
def k0_dev3 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_76 : BitVec 32 := 1#32
  let v132 : BitVec 32 := Scalar.muli v4 c1_i32_76
  let v133 : BitVec 32 := Scalar.addi c0_i32_77 v132
  v133.toNat
def k0_cond3 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c1_i32_54 : BitVec 32 := 1#32
  let v98 : BitVec 1 := Scalar.cmpi .sge arg16 c1_i32_54
  let v99 : BitVec 32 := Scalar.extui v98
  let c0_i32_55 : BitVec 32 := 0#32
  let v100 : BitVec 1 := Scalar.cmpi .ne v99 c0_i32_55
  v100

def k0_off7 (k0_t1 : Fin k0_t1_loop.trips) : Fin 1 → Nat :=
  let c0_i32_38 : BitVec 32 := 0#32
  let c1_i32_39 : BitVec 32 := 1#32
  let arg16 : BitVec 32 := Scf.iv c0_i32_38 c1_i32_39 k0_t1
  let c1_i32_44 : BitVec 32 := 1#32
  let v83 : BitVec 32 := Scalar.subi arg16 c1_i32_44
  let c0_i32_45 : BitVec 32 := 0#32
  let v84 : BitVec 32 := Scalar.maxsi v83 c0_i32_45
  ![v84.toNat]
def k0_off8 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c1_i32_44 : BitVec 32 := 1#32
  let v83 : BitVec 32 := Scalar.subi arg16 c1_i32_44
  let c0_i32_45 : BitVec 32 := 0#32
  let v84 : BitVec 32 := Scalar.maxsi v83 c0_i32_45
  let c1_i32_75 : BitVec 32 := 1#32
  let v131 : BitVec 32 := Scalar.addi v84 c1_i32_75
  let c0_i32_78 : BitVec 32 := 0#32
  let c0_i32_79 : BitVec 32 := 0#32
  ![v131.toNat, 0, 0]
def k0_off9 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c1_i32_44 : BitVec 32 := 1#32
  let v83 : BitVec 32 := Scalar.subi arg16 c1_i32_44
  let c0_i32_45 : BitVec 32 := 0#32
  let v84 : BitVec 32 := Scalar.maxsi v83 c0_i32_45
  let c0_i32_80 : BitVec 32 := 0#32
  let c0_i32_81 : BitVec 32 := 0#32
  ![v84.toNat, 0, 0]
def k0_cond4 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c8_i32_56 : BitVec 32 := 8#32
  let v101 : BitVec 1 := Scalar.cmpi .slt arg16 c8_i32_56
  let v102 : BitVec 32 := Scalar.extui v101
  let c0_i32_57 : BitVec 32 := 0#32
  let v103 : BitVec 1 := Scalar.cmpi .ne v102 c0_i32_57
  v103

def k0_off10 (k0_t1 : Fin k0_t1_loop.trips) : Fin 1 → Nat :=
  let c0_i32_38 : BitVec 32 := 0#32
  let c1_i32_39 : BitVec 32 := 1#32
  let arg16 : BitVec 32 := Scf.iv c0_i32_38 c1_i32_39 k0_t1
  let c7_i32 : BitVec 32 := 7#32
  let v85 : BitVec 32 := Scalar.minsi arg16 c7_i32
  ![v85.toNat]
def k0_off11 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c7_i32 : BitVec 32 := 7#32
  let v85 : BitVec 32 := Scalar.minsi arg16 c7_i32
  let c1_i32_75 : BitVec 32 := 1#32
  let v131 : BitVec 32 := Scalar.addi v85 c1_i32_75
  let c0_i32_78 : BitVec 32 := 0#32
  let c0_i32_79 : BitVec 32 := 0#32
  ![v131.toNat, 0, 0]
def k0_off12 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c7_i32 : BitVec 32 := 7#32
  let v85 : BitVec 32 := Scalar.minsi arg16 c7_i32
  let c0_i32_80 : BitVec 32 := 0#32
  let c0_i32_81 : BitVec 32 := 0#32
  ![v85.toNat, 0, 0]
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_76 : BitVec 32 := 1#32
  let v132 : BitVec 32 := Scalar.muli v4 c1_i32_76
  let v133 : BitVec 32 := Scalar.addi c0_i32_77 v132
  v133.toNat
def k0_cond5 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c1_i32_58 : BitVec 32 := 1#32
  let v104 : BitVec 1 := Scalar.cmpi .sge arg16 c1_i32_58
  let c7_i32_59 : BitVec 32 := 7#32
  let v105 : BitVec 1 := Scalar.cmpi .sle arg16 c7_i32_59
  let v106 : BitVec 1 := Scalar.andi v104 v105
  let v107 : BitVec 32 := Scalar.extui v106
  let c0_i32_60 : BitVec 32 := 0#32
  let v108 : BitVec 1 := Scalar.cmpi .ne v107 c0_i32_60
  v108

def k0_off13 (k0_t1 : Fin k0_t1_loop.trips) : Fin 1 → Nat :=
  let c0_i32_38 : BitVec 32 := 0#32
  let c1_i32_39 : BitVec 32 := 1#32
  let arg16 : BitVec 32 := Scf.iv c0_i32_38 c1_i32_39 k0_t1
  let c1_i32_44 : BitVec 32 := 1#32
  let v83 : BitVec 32 := Scalar.subi arg16 c1_i32_44
  let c0_i32_45 : BitVec 32 := 0#32
  let v84 : BitVec 32 := Scalar.maxsi v83 c0_i32_45
  ![v84.toNat]
def k0_off14 (k0_t1 : Fin k0_t1_loop.trips) : Fin 3 → Nat :=
  let c16_i32_49 : BitVec 32 := 16#32
  let c7_i32_48 : BitVec 32 := 7#32
  let c1_i32_47 : BitVec 32 := 1#32
  let c0_i32_38 : BitVec 32 := 0#32
  let c1_i32_39 : BitVec 32 := 1#32
  let arg16 : BitVec 32 := Scf.iv c0_i32_38 c1_i32_39 k0_t1
  let v89 : BitVec 32 := Scalar.maxsi c1_i32_47 arg16
  let v90 : BitVec 32 := Scalar.minsi c7_i32_48 v89
  let v91 : BitVec 32 := Scalar.subi c16_i32_49 v90
  let c0_i32_78 : BitVec 32 := 0#32
  let c0_i32_79 : BitVec 32 := 0#32
  ![v91.toNat, 0, 0]
def k0_cond6 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c7_i32_61 : BitVec 32 := 7#32
  let v109 : BitVec 1 := Scalar.cmpi .slt arg16 c7_i32_61
  let v110 : BitVec 32 := Scalar.extui v109
  let c0_i32_62 : BitVec 32 := 0#32
  let v111 : BitVec 1 := Scalar.cmpi .ne v110 c0_i32_62
  v111

def k0_off15 (k0_t1 : Fin k0_t1_loop.trips) : Fin 1 → Nat :=
  let c0_i32_38 : BitVec 32 := 0#32
  let c1_i32_39 : BitVec 32 := 1#32
  let arg16 : BitVec 32 := Scf.iv c0_i32_38 c1_i32_39 k0_t1
  let c6_i32 : BitVec 32 := 6#32
  let v86 : BitVec 32 := Scalar.minsi arg16 c6_i32
  ![v86.toNat]
def k0_off16 (k0_t1 : Fin k0_t1_loop.trips) : Fin 3 → Nat :=
  let c15_i32 : BitVec 32 := 15#32
  let c0_i32_38 : BitVec 32 := 0#32
  let c1_i32_39 : BitVec 32 := 1#32
  let arg16 : BitVec 32 := Scf.iv c0_i32_38 c1_i32_39 k0_t1
  let c6_i32 : BitVec 32 := 6#32
  let v86 : BitVec 32 := Scalar.minsi arg16 c6_i32
  let v131 : BitVec 32 := Scalar.subi c15_i32 v86
  let c0_i32_77 : BitVec 32 := 0#32
  let c0_i32_78 : BitVec 32 := 0#32
  ![v131.toNat, 0, 0]
def k0_off17 (k0_t1 : Fin k0_t1_loop.trips) : Fin 3 → Nat :=
  let c32_i32 : BitVec 32 := 32#32
  let c0_i32_38 : BitVec 32 := 0#32
  let c1_i32_39 : BitVec 32 := 1#32
  let arg16 : BitVec 32 := Scf.iv c0_i32_38 c1_i32_39 k0_t1
  let v87 : BitVec 32 := Scalar.subi c32_i32 arg16
  let c16_i32_46 : BitVec 32 := 16#32
  let v88 : BitVec 32 := Scalar.remsi v87 c16_i32_46
  let c0_i32_79 : BitVec 32 := 0#32
  let c0_i32_80 : BitVec 32 := 0#32
  ![v88.toNat, 0, 0]
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_75 : BitVec 32 := 1#32
  let v132 : BitVec 32 := Scalar.muli v7 c1_i32_75
  let v133 : BitVec 32 := Scalar.addi c0_i32_76 v132
  v133.toNat
def k0_cond7 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c1_i32_63 : BitVec 32 := 1#32
  let v112 : BitVec 1 := Scalar.cmpi .sge arg16 c1_i32_63
  let c7_i32_64 : BitVec 32 := 7#32
  let v113 : BitVec 1 := Scalar.cmpi .sle arg16 c7_i32_64
  let v114 : BitVec 1 := Scalar.andi v112 v113
  let v115 : BitVec 32 := Scalar.extui v114
  let c0_i32_65 : BitVec 32 := 0#32
  let v116 : BitVec 1 := Scalar.cmpi .ne v115 c0_i32_65
  v116

def k0_off18 (k0_t1 : Fin k0_t1_loop.trips) : Fin 1 → Nat :=
  let c0_i32_38 : BitVec 32 := 0#32
  let c1_i32_39 : BitVec 32 := 1#32
  let arg16 : BitVec 32 := Scf.iv c0_i32_38 c1_i32_39 k0_t1
  let c1_i32_44 : BitVec 32 := 1#32
  let v83 : BitVec 32 := Scalar.subi arg16 c1_i32_44
  let c0_i32_45 : BitVec 32 := 0#32
  let v84 : BitVec 32 := Scalar.maxsi v83 c0_i32_45
  ![v84.toNat]
def k0_off19 (k0_t1 : Fin k0_t1_loop.trips) : Fin 3 → Nat :=
  let c16_i32_49 : BitVec 32 := 16#32
  let c7_i32_48 : BitVec 32 := 7#32
  let c1_i32_47 : BitVec 32 := 1#32
  let c0_i32_38 : BitVec 32 := 0#32
  let c1_i32_39 : BitVec 32 := 1#32
  let arg16 : BitVec 32 := Scf.iv c0_i32_38 c1_i32_39 k0_t1
  let v89 : BitVec 32 := Scalar.maxsi c1_i32_47 arg16
  let v90 : BitVec 32 := Scalar.minsi c7_i32_48 v89
  let v91 : BitVec 32 := Scalar.subi c16_i32_49 v90
  let c0_i32_78 : BitVec 32 := 0#32
  let c0_i32_79 : BitVec 32 := 0#32
  ![v91.toNat, 0, 0]
def k0_cond8 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c7_i32_66 : BitVec 32 := 7#32
  let v117 : BitVec 1 := Scalar.cmpi .slt arg16 c7_i32_66
  let v118 : BitVec 32 := Scalar.extui v117
  let c0_i32_67 : BitVec 32 := 0#32
  let v119 : BitVec 1 := Scalar.cmpi .ne v118 c0_i32_67
  v119

def k0_off20 (k0_t1 : Fin k0_t1_loop.trips) : Fin 1 → Nat :=
  let c0_i32_38 : BitVec 32 := 0#32
  let c1_i32_39 : BitVec 32 := 1#32
  let arg16 : BitVec 32 := Scf.iv c0_i32_38 c1_i32_39 k0_t1
  let c6_i32 : BitVec 32 := 6#32
  let v86 : BitVec 32 := Scalar.minsi arg16 c6_i32
  ![v86.toNat]
def k0_off21 (k0_t1 : Fin k0_t1_loop.trips) : Fin 3 → Nat :=
  let c15_i32 : BitVec 32 := 15#32
  let c0_i32_38 : BitVec 32 := 0#32
  let c1_i32_39 : BitVec 32 := 1#32
  let arg16 : BitVec 32 := Scf.iv c0_i32_38 c1_i32_39 k0_t1
  let c6_i32 : BitVec 32 := 6#32
  let v86 : BitVec 32 := Scalar.minsi arg16 c6_i32
  let v131 : BitVec 32 := Scalar.subi c15_i32 v86
  let c0_i32_77 : BitVec 32 := 0#32
  let c0_i32_78 : BitVec 32 := 0#32
  ![v131.toNat, 0, 0]
def k0_off22 (k0_t1 : Fin k0_t1_loop.trips) : Fin 3 → Nat :=
  let c32_i32 : BitVec 32 := 32#32
  let c0_i32_38 : BitVec 32 := 0#32
  let c1_i32_39 : BitVec 32 := 1#32
  let arg16 : BitVec 32 := Scf.iv c0_i32_38 c1_i32_39 k0_t1
  let v87 : BitVec 32 := Scalar.subi c32_i32 arg16
  let c16_i32_46 : BitVec 32 := 16#32
  let v88 : BitVec 32 := Scalar.remsi v87 c16_i32_46
  let c0_i32_79 : BitVec 32 := 0#32
  let c0_i32_80 : BitVec 32 := 0#32
  ![v88.toNat, 0, 0]
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_75 : BitVec 32 := 1#32
  let v132 : BitVec 32 := Scalar.muli v7 c1_i32_75
  let v133 : BitVec 32 := Scalar.addi c0_i32_76 v132
  v133.toNat
def k0_cond9 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c0_i32_68 : BitVec 32 := 0#32
  let v120 : BitVec 1 := Scalar.cmpi .eq arg16 c0_i32_68
  let v121 : BitVec 32 := Scalar.extui v120
  let c0_i32_69 : BitVec 32 := 0#32
  let v122 : BitVec 1 := Scalar.cmpi .ne v121 c0_i32_69
  v122

def k0_off23 (d0 : Dev nD) (c0_i32_86 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_75 : BitVec 32 := 0#32
  let v131 : BitVec 32 := Scalar.subi v2 c0_i32_75
  let c32_i32_76 : BitVec 32 := 32#32
  let v132 : BitVec 32 := Scalar.addi v131 c32_i32_76
  let c16_i32_77 : BitVec 32 := 16#32
  let v133 : BitVec 32 := Scalar.remsi v132 c16_i32_77
  let c4_i32 : BitVec 32 := 4#32
  let v141 : BitVec 32 := Scalar.muli v133 c4_i32
  let v142 : BitVec 32 := Scalar.addi v141 c0_i32_86
  let v144 : Index := Scalar.indexCast v142
  let c0_87 : Index := 0#32
  let c0_88 : Index := 0#32
  ![v144.toNat, 0, 0]
def k0_cond10 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c1_i32_70 : BitVec 32 := 1#32
  let v123 : BitVec 1 := Scalar.cmpi .sge arg16 c1_i32_70
  let v124 : BitVec 32 := Scalar.extui v123
  let c0_i32_71 : BitVec 32 := 0#32
  let v125 : BitVec 1 := Scalar.cmpi .ne v124 c0_i32_71
  v125

def k0_off24 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c8_i32_75 : BitVec 32 := 8#32
  let v131 : BitVec 32 := Scalar.minsi arg16 c8_i32_75
  let v135 : Index := Scalar.indexCast v131
  let c0_78 : Index := 0#32
  let c0_79 : Index := 0#32
  ![v135.toNat, 0, 0]
def k0_off25 (k0_t1 : Fin k0_t1_loop.trips) : Fin 3 → Nat :=
  let c0_i32_38 : BitVec 32 := 0#32
  let c1_i32_39 : BitVec 32 := 1#32
  let arg16 : BitVec 32 := Scf.iv c0_i32_38 c1_i32_39 k0_t1
  let c8_i32_75 : BitVec 32 := 8#32
  let v131 : BitVec 32 := Scalar.minsi arg16 c8_i32_75
  let v138 : Index := Scalar.indexCast v131
  let c0_80 : Index := 0#32
  let c0_81 : Index := 0#32
  ![v138.toNat, 0, 0]
def k0_off26 (d0 : Dev nD) (k0_t1 : Fin k0_t1_loop.trips) (c0_i32_84 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_38 : BitVec 32 := 0#32
  let c1_i32_39 : BitVec 32 := 1#32
  let arg16 : BitVec 32 := Scf.iv c0_i32_38 c1_i32_39 k0_t1
  let c8_i32_75 : BitVec 32 := 8#32
  let v131 : BitVec 32 := Scalar.minsi arg16 c8_i32_75
  let v132 : BitVec 32 := Scalar.subi v2 v131
  let c32_i32_76 : BitVec 32 := 32#32
  let v133 : BitVec 32 := Scalar.addi v132 c32_i32_76
  let c16_i32_77 : BitVec 32 := 16#32
  let v134 : BitVec 32 := Scalar.remsi v133 c16_i32_77
  let c4_i32 : BitVec 32 := 4#32
  let v144 : BitVec 32 := Scalar.muli v134 c4_i32
  let v145 : BitVec 32 := Scalar.addi v144 c0_i32_84
  let v147 : Index := Scalar.indexCast v145
  let c0_85 : Index := 0#32
  let c0_86 : Index := 0#32
  ![v147.toNat, 0, 0]
def k0_cond11 (k0_t1 : Fin k0_t1_loop.trips) : BitVec 1 :=
  let c0_i32_38 : BitVec 32 := 0#32
  let c1_i32_39 : BitVec 32 := 1#32
  let arg16 : BitVec 32 := Scf.iv c0_i32_38 c1_i32_39 k0_t1
  let c1_i32_72 : BitVec 32 := 1#32
  let v126 : BitVec 1 := Scalar.cmpi .sge arg16 c1_i32_72
  let c7_i32_73 : BitVec 32 := 7#32
  let v127 : BitVec 1 := Scalar.cmpi .sle arg16 c7_i32_73
  let v128 : BitVec 1 := Scalar.andi v126 v127
  let v129 : BitVec 32 := Scalar.extui v128
  let c0_i32_74 : BitVec 32 := 0#32
  let v130 : BitVec 1 := Scalar.cmpi .ne v129 c0_i32_74
  v130

def k0_off27 (k0_t1 : Fin k0_t1_loop.trips) : Fin 3 → Nat :=
  let c16_i32_49 : BitVec 32 := 16#32
  let c7_i32_48 : BitVec 32 := 7#32
  let c1_i32_47 : BitVec 32 := 1#32
  let c0_i32_38 : BitVec 32 := 0#32
  let c1_i32_39 : BitVec 32 := 1#32
  let arg16 : BitVec 32 := Scf.iv c0_i32_38 c1_i32_39 k0_t1
  let v89 : BitVec 32 := Scalar.maxsi c1_i32_47 arg16
  let v90 : BitVec 32 := Scalar.minsi c7_i32_48 v89
  let v91 : BitVec 32 := Scalar.subi c16_i32_49 v90
  let v134 : Index := Scalar.indexCast v91
  let c0_77 : Index := 0#32
  let c0_78 : Index := 0#32
  ![v134.toNat, 0, 0]
def k0_off28 (k0_t1 : Fin k0_t1_loop.trips) : Fin 3 → Nat :=
  let c16_i32_49 : BitVec 32 := 16#32
  let c7_i32_48 : BitVec 32 := 7#32
  let c1_i32_47 : BitVec 32 := 1#32
  let c0_i32_38 : BitVec 32 := 0#32
  let c1_i32_39 : BitVec 32 := 1#32
  let arg16 : BitVec 32 := Scf.iv c0_i32_38 c1_i32_39 k0_t1
  let v89 : BitVec 32 := Scalar.maxsi c1_i32_47 arg16
  let v90 : BitVec 32 := Scalar.minsi c7_i32_48 v89
  let v91 : BitVec 32 := Scalar.subi c16_i32_49 v90
  let v137 : Index := Scalar.indexCast v91
  let c0_79 : Index := 0#32
  let c0_80 : Index := 0#32
  ![v137.toNat, 0, 0]
def k0_off29 (d0 : Dev nD) (k0_t1 : Fin k0_t1_loop.trips) (c0_i32_83 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_49 : BitVec 32 := 16#32
  let c7_i32_48 : BitVec 32 := 7#32
  let c1_i32_47 : BitVec 32 := 1#32
  let c0_i32_38 : BitVec 32 := 0#32
  let c1_i32_39 : BitVec 32 := 1#32
  let arg16 : BitVec 32 := Scf.iv c0_i32_38 c1_i32_39 k0_t1
  let v89 : BitVec 32 := Scalar.maxsi c1_i32_47 arg16
  let v90 : BitVec 32 := Scalar.minsi c7_i32_48 v89
  let v91 : BitVec 32 := Scalar.subi c16_i32_49 v90
  let v131 : BitVec 32 := Scalar.subi v2 v91
  let c32_i32_75 : BitVec 32 := 32#32
  let v132 : BitVec 32 := Scalar.addi v131 c32_i32_75
  let c16_i32_76 : BitVec 32 := 16#32
  let v133 : BitVec 32 := Scalar.remsi v132 c16_i32_76
  let c4_i32 : BitVec 32 := 4#32
  let v143 : BitVec 32 := Scalar.muli v133 c4_i32
  let v144 : BitVec 32 := Scalar.addi v143 c0_i32_83
  let v146 : Index := Scalar.indexCast v144
  let c0_84 : Index := 0#32
  let c0_85 : Index := 0#32
  ![v146.toNat, 0, 0]
@[reducible] def k0_t2_loop : Scf.Loop 32 :=
  let c0_i32_41 : BitVec 32 := 0#32
  let c8_i32 : BitVec 32 := 8#32
  let v82 : BitVec 32 := Scalar.addi c0_i32_41 c8_i32
  let c1_i32_42 : BitVec 32 := 1#32
  ⟨c0_i32_41, v82, c1_i32_42⟩
def k0_off30 (k0_t2 : Fin k0_t2_loop.trips) : Fin 1 → Nat :=
  let c0_i32_41 : BitVec 32 := 0#32
  let c1_i32_42 : BitVec 32 := 1#32
  let arg16 : BitVec 32 := Scf.iv c0_i32_41 c1_i32_42 k0_t2
  ![arg16.toNat]
def k0_off31 (k0_t2 : Fin k0_t2_loop.trips) : Fin 3 → Nat :=
  let c0_i32_41 : BitVec 32 := 0#32
  let c1_i32_42 : BitVec 32 := 1#32
  let arg16 : BitVec 32 := Scf.iv c0_i32_41 c1_i32_42 k0_t2
  let c0_i32_45 : BitVec 32 := 0#32
  let c0_i32_46 : BitVec 32 := 0#32
  ![arg16.toNat, 0, 0]
def k0_off32 (k0_t2 : Fin k0_t2_loop.trips) : Fin 3 → Nat :=
  let c0_i32_41 : BitVec 32 := 0#32
  let c1_i32_42 : BitVec 32 := 1#32
  let arg16 : BitVec 32 := Scf.iv c0_i32_41 c1_i32_42 k0_t2
  let c0_i32_50 : BitVec 32 := 0#32
  let c0_i32_51 : BitVec 32 := 0#32
  ![arg16.toNat, 0, 0]
def k0_cond12 (k0_t2 : Fin k0_t2_loop.trips) : BitVec 1 :=
  let c0_i32_41 : BitVec 32 := 0#32
  let c1_i32_42 : BitVec 32 := 1#32
  let arg16 : BitVec 32 := Scf.iv c0_i32_41 c1_i32_42 k0_t2
  let c7_i32 : BitVec 32 := 7#32
  let v96 : BitVec 1 := Scalar.cmpi .slt arg16 c7_i32
  let v97 : BitVec 32 := Scalar.extui v96
  let c0_i32_54 : BitVec 32 := 0#32
  let v98 : BitVec 1 := Scalar.cmpi .ne v97 c0_i32_54
  v98

def k0_off33 (k0_t2 : Fin k0_t2_loop.trips) : Fin 1 → Nat :=
  let c0_i32_41 : BitVec 32 := 0#32
  let c1_i32_42 : BitVec 32 := 1#32
  let arg16 : BitVec 32 := Scf.iv c0_i32_41 c1_i32_42 k0_t2
  let c6_i32 : BitVec 32 := 6#32
  let v83 : BitVec 32 := Scalar.minsi arg16 c6_i32
  ![v83.toNat]
def k0_off34 (k0_t2 : Fin k0_t2_loop.trips) : Fin 3 → Nat :=
  let c0_i32_41 : BitVec 32 := 0#32
  let c1_i32_42 : BitVec 32 := 1#32
  let arg16 : BitVec 32 := Scf.iv c0_i32_41 c1_i32_42 k0_t2
  let c6_i32 : BitVec 32 := 6#32
  let v83 : BitVec 32 := Scalar.minsi arg16 c6_i32
  let c0_i32_56 : BitVec 32 := 0#32
  let c0_i32_57 : BitVec 32 := 0#32
  ![v83.toNat, 0, 0]
def k0_off35 (k0_t2 : Fin k0_t2_loop.trips) : Fin 3 → Nat :=
  let c0_i32_41 : BitVec 32 := 0#32
  let c1_i32_42 : BitVec 32 := 1#32
  let arg16 : BitVec 32 := Scf.iv c0_i32_41 c1_i32_42 k0_t2
  let c6_i32 : BitVec 32 := 6#32
  let v83 : BitVec 32 := Scalar.minsi arg16 c6_i32
  let c0_i32_61 : BitVec 32 := 0#32
  let c0_i32_62 : BitVec 32 := 0#32
  ![v83.toNat, 0, 0]
def k0_dev7 (d0 : Dev nD) : Nat :=
  let c0_i32_46_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_45_r0 : BitVec 32 := 1#32
  let v84_r0 : BitVec 32 := Scalar.muli v7 c1_i32_45_r0
  let v85_r0 : BitVec 32 := Scalar.addi c0_i32_46_r0 v84_r0
  v85_r0.toNat
def k0_dev8 (d0 : Dev nD) : Nat :=
  let c0_i32_49_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_48_r0 : BitVec 32 := 1#32
  let v86_r0 : BitVec 32 := Scalar.muli v4 c1_i32_48_r0
  let v87_r0 : BitVec 32 := Scalar.addi c0_i32_49_r0 v86_r0
  v87_r0.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S32x128x512 : Shape := ⟨3, ![32, 128, 512]⟩
abbrev S512x4096 : Shape := ⟨2, ![512, 4096]⟩
abbrev S32x128x64x64 : Shape := ⟨4, ![32, 128, 64, 64]⟩
abbrev S4096x512 : Shape := ⟨2, ![4096, 512]⟩
abbrev S32x128x4096 : Shape := ⟨3, ![32, 128, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S32x64x128x128 : Shape := ⟨4, ![32, 64, 128, 128]⟩
abbrev S1x1x128x128 : Shape := ⟨4, ![1, 1, 128, 128]⟩
abbrev S32x64x128 : Shape := ⟨3, ![32, 64, 128]⟩
abbrev S32x64x128x1 : Shape := ⟨4, ![32, 64, 128, 1]⟩
abbrev S1x1x128x1 : Shape := ⟨4, ![1, 1, 128, 1]⟩
abbrev S32x64x64x128 : Shape := ⟨4, ![32, 64, 64, 128]⟩

abbrev nBuf : Space → Nat
  | .hbm => 72
  | .vmem => 0
  | .smem => 0
  | _ => 0

abbrev bufTy : (tb : Table) → Fin (tcTables nBuf tb) → BufTy
  | .hbm, ⟨0, _⟩ => ⟨S32x128x512, .bf16⟩
  | .hbm, ⟨1, _⟩ => ⟨S512x4096, .bf16⟩
  | .hbm, ⟨2, _⟩ => ⟨S32x128x64x64, .bf16⟩
  | .hbm, ⟨3, _⟩ => ⟨S32x128x64x64, .bf16⟩
  | .hbm, ⟨4, _⟩ => ⟨S4096x512, .bf16⟩
  | .hbm, ⟨5, _⟩ => ⟨S32x128x512, .f32⟩
  | .hbm, ⟨6, _⟩ => ⟨S512x4096, .f32⟩
  | .hbm, ⟨7, _⟩ => ⟨S32x128x64x64, .f32⟩
  | .hbm, ⟨8, _⟩ => ⟨S32x128x64x64, .f32⟩
  | .hbm, ⟨9, _⟩ => ⟨S4096x512, .f32⟩
  | .hbm, ⟨10, _⟩ => ⟨S32x128x4096, .f32⟩
  | .hbm, ⟨11, _⟩ => ⟨S32x128x64x64, .f32⟩
  | .hbm, ⟨12, _⟩ => ⟨S128, .i32⟩
  | .hbm, ⟨13, _⟩ => ⟨S128x1, .i32⟩
  | .hbm, ⟨14, _⟩ => ⟨S128, .i32⟩
  | .hbm, ⟨15, _⟩ => ⟨S1x128, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S_, .i32⟩
  | .hbm, ⟨24, _⟩ => ⟨S1x128, .i32⟩
  | .hbm, ⟨25, _⟩ => ⟨S1x128, .i1⟩
  | .hbm, ⟨26, _⟩ => ⟨S_, .i32⟩
  | .hbm, ⟨27, _⟩ => ⟨S128x1, .i32⟩
  | .hbm, ⟨28, _⟩ => ⟨S128x1, .i1⟩
  | .hbm, ⟨29, _⟩ => ⟨S128x128, .i1⟩
  | .hbm, ⟨30, _⟩ => ⟨S128x128, .i1⟩
  | .hbm, ⟨31, _⟩ => ⟨S128x128, .i1⟩
  | .hbm, ⟨32, _⟩ => ⟨S128x128, .i1⟩
  | .hbm, ⟨33, _⟩ => ⟨S32x64x128x128, .f32⟩
  | .hbm, ⟨34, _⟩ => ⟨S_, .f32⟩
  | .hbm, ⟨35, _⟩ => ⟨S32x64x128x128, .f32⟩
  | .hbm, ⟨36, _⟩ => ⟨S32x64x128x128, .f32⟩
  | .hbm, ⟨37, _⟩ => ⟨S1x1x128x128, .i1⟩
  | .hbm, ⟨38, _⟩ => ⟨S_, .f32⟩
  | .hbm, ⟨39, _⟩ => ⟨S_, .f32⟩
  | .hbm, ⟨40, _⟩ => ⟨S32x64x128x128, .i1⟩
  | .hbm, ⟨41, _⟩ => ⟨S32x64x128x128, .f32⟩
  | .hbm, ⟨42, _⟩ => ⟨S32x64x128x128, .f32⟩
  | .hbm, ⟨43, _⟩ => ⟨S_, .f32⟩
  | .hbm, ⟨44, _⟩ => ⟨S32x64x128, .f32⟩
  | .hbm, ⟨45, _⟩ => ⟨S32x64x128x1, .f32⟩
  | .hbm, ⟨46, _⟩ => ⟨S32x64x128x128, .f32⟩
  | .hbm, ⟨47, _⟩ => ⟨S32x64x128x128, .f32⟩
  | .hbm, ⟨48, _⟩ => ⟨S32x64x128x128, .f32⟩
  | .hbm, ⟨49, _⟩ => ⟨S_, .i1⟩
  | .hbm, ⟨50, _⟩ => ⟨S128, .i1⟩
  | .hbm, ⟨51, _⟩ => ⟨S1x1x128x1, .i1⟩
  | .hbm, ⟨52, _⟩ => ⟨S_, .f32⟩
  | .hbm, ⟨53, _⟩ => ⟨S32x64x128, .f32⟩
  | .hbm, ⟨54, _⟩ => ⟨S32x64x128x1, .f32⟩
  | .hbm, ⟨55, _⟩ => ⟨S_, .f32⟩
  | .hbm, ⟨56, _⟩ => ⟨S_, .f32⟩
  | .hbm, ⟨57, _⟩ => ⟨S32x64x128x1, .i1⟩
  | .hbm, ⟨58, _⟩ => ⟨S32x64x128x1, .f32⟩
  | .hbm, ⟨59, _⟩ => ⟨S32x64x128x1, .f32⟩
  | .hbm, ⟨60, _⟩ => ⟨S32x64x128x128, .f32⟩
  | .hbm, ⟨61, _⟩ => ⟨S32x64x128x128, .f32⟩
  | .hbm, ⟨62, _⟩ => ⟨S1x1x128x1, .i1⟩
  | .hbm, ⟨63, _⟩ => ⟨S_, .f32⟩
  | .hbm, ⟨64, _⟩ => ⟨S_, .f32⟩
  | .hbm, ⟨65, _⟩ => ⟨S32x64x128x128, .i1⟩
  | .hbm, ⟨66, _⟩ => ⟨S32x64x128x128, .f32⟩
  | .hbm, ⟨67, _⟩ => ⟨S32x64x128x128, .f32⟩
  | .hbm, ⟨68, _⟩ => ⟨S32x64x64x128, .f32⟩
  | .hbm, ⟨69, _⟩ => ⟨S32x128x64x64, .f32⟩
  | .hbm, ⟨70, _⟩ => ⟨S32x128x4096, .f32⟩
  | .hbm, ⟨71, _⟩ => ⟨S32x128x512, .f32⟩
  | _, _ => ⟨S32x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.ProtoKI.lean ====
/-
  The protocol of the two-way ring: the devices' places, the slots of the two ring buffers and what they end with,
  the semaphore cells, the schedule of payments on them, what each device owes and the levels of the cells.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionTalk
public import Idealize.ShloMosaic.Lib.Pipeline.Kit
public import Idealize.ShloMosaic.Lib.ViewIndex
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type}

/-- The pipeline library's copy of the rounds' algebra and the ring's own, with two names for the duties of a round:
    `true` for what comes from the left neighbour or from the device itself, `false` for what comes from the right. -/
abbrev UU : Type := UR sig nD τ × Rounds.URounds (GSem nD τ sig) Bool

local notation "𝕄" => MT nD τ sig Unit (Elt F) ℕ UU ℕ

abbrev EP : Emb (UR sig nD τ) (MT nD τ sig Unit (Elt F) ℕ UU ℕ) := embL
abbrev ER : Emb (Rounds.URounds (GSem nD τ sig) Bool) (MT nD τ sig Unit (Elt F) ℕ UU ℕ) := embR

/-! ## The places on the ring -/

set_option backward.proofsInPublic true in
/-- The right neighbour. -/
def nxt (c : Dev nD) : Dev nD := ⟨(c.val + 1) % 16, Nat.mod_lt _ (by decide)⟩
set_option backward.proofsInPublic true in
/-- The left neighbour. -/
def prv (c : Dev nD) : Dev nD := ⟨(c.val + 15) % 16, Nat.mod_lt _ (by decide)⟩
set_option backward.proofsInPublic true in
/-- The device whose blocks slot `s` of device `c` ends with. -/
def org (c : Dev nD) (s : Fin 16) : Dev nD := ⟨(c.val + (16 - s.val)) % 16, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- The neighbour a payment of the given name goes to. -/
def peer (c : Dev nD) (d : Bool) : Dev nD := if d then nxt c else prv c

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) (h) : (⟨k0_dev3 c, h⟩ : Dev nD) = nxt c := by revert c; decide
theorem dev4_eq (c : Dev nD) (h) : (⟨k0_dev4 c, h⟩ : Dev nD) = nxt c := by revert c; decide
theorem dev5_eq (c : Dev nD) (h) : (⟨k0_dev5 c, h⟩ : Dev nD) = prv c := by revert c; decide
theorem dev6_eq (c : Dev nD) (h) : (⟨k0_dev6 c, h⟩ : Dev nD) = prv c := by revert c; decide
theorem dev7_eq (c : Dev nD) : (⟨k0_dev7 c, k0_dev7_lt c⟩ : Dev nD) = prv c := by revert c; decide
theorem dev8_eq (c : Dev nD) : (⟨k0_dev8 c, k0_dev8_lt c⟩ : Dev nD) = nxt c := by revert c; decide

/-! ## The slots -/

theorem inb6 (s : Fin 16) : ∀ a, (![s.val, 0, 0] : Fin 3 → Nat) a + S1x512x256.size a ≤ S16x512x256.size a := by revert s; decide
theorem inb7 (s : Fin 16) : ∀ a, (![s.val, 0, 0] : Fin 3 → Nat) a + S1x256x512.size a ≤ S16x256x512.size a := by revert s; decide

abbrev q6 : Memref sig .tc .vmem S16x512x256 .bf16 := Memref.whole cc0_scratch0
abbrev q7 : Memref sig .tc .vmem S16x256x512 .bf16 := Memref.whole cc0_scratch1

/-- Slot `s` of the ring buffer of the projection weights, and of the output weights. -/
abbrev rect6 (s : Fin 16) : Rect S16x512x256 := Rect.unit (s := S16x512x256) ![s.val, 0, 0] S1x512x256.size (inb6 s)
abbrev rect7 (s : Fin 16) : Rect S16x256x512 := Rect.unit (s := S16x256x512) ![s.val, 0, 0] S1x256x512.size (inb7 s)
abbrev slot6 (s : Fin 16) : Memref sig .tc .vmem S512x256 .bf16 :=
  (q6.slice (rect6 s) (fun _ => rfl)).squeeze S512x256 squeezes_S1x512x256_S512x256
abbrev slot7 (s : Fin 16) : Memref sig .tc .vmem S256x512 .bf16 :=
  (q7.slice (rect7 s) (fun _ => rfl)).squeeze S256x512 squeezes_S1x256x512_S256x512

/-- The program's spelling of a slot, at offsets that are a slot's. -/
theorem slot6_of (off : Fin 3 → Nat) (inb) (s : Fin 16) (h : off = ![s.val, 0, 0]) :
    (q6.slice (Rect.unit (s := S16x512x256) off S1x512x256.size inb) (fun _ => rfl)).squeeze S512x256 squeezes_S1x512x256_S512x256 = slot6 s := by
  subst h; rfl
theorem slot7_of (off : Fin 3 → Nat) (inb) (s : Fin 16) (h : off = ![s.val, 0, 0]) :
    (q7.slice (Rect.unit (s := S16x256x512) off S1x256x512.size inb) (fun _ => rfl)).squeeze S256x512 squeezes_S1x256x512_S256x512 = slot7 s := by
  subst h; rfl

/-- What a transfer of a slot credits: the same for both buffers. -/
def N : ℕ := (slot6 0).view.dmaCredit
theorem N_pos : 0 < N := View.dmaCredit_pos _ (by decide)
theorem credit6 (s : Fin 16) : (slot6 s).view.dmaCredit = N := rfl
theorem credit7 (s : Fin 16) : (slot7 s).view.dmaCredit = N := by
  show (slot7 0).view.dmaCredit = N
  decide +kernel

/-- An index of a ring buffer from the slot and the two coordinates in it. -/
abbrev ix6 (s : Fin 16) (j : S512x256.Idx) : S16x512x256.Idx := fun | 0 => s | 1 => j 0 | 2 => j 1
abbrev ix7 (s : Fin 16) (j : S256x512.Idx) : S16x256x512.Idx := fun | 0 => s | 1 => j 0 | 2 => j 1

theorem emb6 (s : Fin 16) (j : S512x256.Idx) : (slot6 s).view.emb j = ix6 s j := by
  have e : Shape.reshapeEquiv (s := S1x512x256) (s' := S512x256) (by decide) j = Fin.cons ⟨0, Nat.one_pos⟩ j :=
    Shape.reshapeEquiv_cons_one (n := 2) (d := ![512, 256]) _ j
  show (rect6 s).emb (Shape.reshapeEquiv (s := S1x512x256) (s' := S512x256) (by decide) j) = _
  rw [e]
  refine Shape.idx3_ext (d := ![16, 512, 256]) ?_ ?_ ?_
  · show s.val + 1 * 0 = s.val
    omega
  · show 0 + 1 * (j 0).val = (j 0).val
    omega
  · show 0 + 1 * (j 1).val = (j 1).val
    omega
theorem emb7 (s : Fin 16) (j : S256x512.Idx) : (slot7 s).view.emb j = ix7 s j := by
  have e : Shape.reshapeEquiv (s := S1x256x512) (s' := S256x512) (by decide) j = Fin.cons ⟨0, Nat.one_pos⟩ j :=
    Shape.reshapeEquiv_cons_one (n := 2) (d := ![256, 512]) _ j
  show (rect7 s).emb (Shape.reshapeEquiv (s := S1x256x512) (s' := S256x512) (by decide) j) = _
  rw [e]
  refine Shape.idx3_ext (d := ![16, 256, 512]) ?_ ?_ ?_
  · show s.val + 1 * 0 = s.val
    omega
  · show 0 + 1 * (j 0).val = (j 0).val
    omega
  · show 0 + 1 * (j 1).val = (j 1).val
    omega

/-! ## What the slots end with -/

section Contents

variable (A1 : Dev nD → S512x256.Idx → Elt F .bf16) (A2 : Dev nD → S256x512.Idx → Elt F .bf16)

/-- What the ring buffers of device `c` end with, whole: in slot `s` the blocks of the device `s` places to the left. -/
def G6 (c : Dev nD) : Buf (Elt F) ((c : Thread nD τ).loc cc0_scratch0) :=
  fun (i : S16x512x256.Idx) => A1 (org c (i 0)) (fun | 0 => i 1 | 1 => i 2)
def G7 (c : Dev nD) : Buf (Elt F) ((c : Thread nD τ).loc cc0_scratch1) :=
  fun (i : S16x256x512.Idx) => A2 (org c (i 0)) (fun | 0 => i 1 | 1 => i 2)

/-- A slot of device `c` at a share, with what it ends with; -/
def P6 (c : Dev nD) (s : Fin 16) (q : PosShare TreeShare) : sProp 𝕄 :=
  (slot6 s).view.loc (c : Thread nD τ) ↦[(slot6 s).view.set]{q} G6 A1 c
def P7 (c : Dev nD) (s : Fin 16) (q : PosShare TreeShare) : sProp 𝕄 :=
  (slot7 s).view.loc (c : Thread nD τ) ↦[(slot7 s).view.set]{q} G7 A2 c
/-- and a slot at anything. -/
def W6 (c : Dev nD) (s : Fin 16) : sProp 𝕄 :=
  iprop(∃ f : Buf (Elt F) ((slot6 s).view.loc (c : Thread nD τ)), (slot6 s).view.loc (c : Thread nD τ) ↦[(slot6 s).view.set]{fullShare} f)
def W7 (c : Dev nD) (s : Fin 16) : sProp 𝕄 :=
  iprop(∃ f : Buf (Elt F) ((slot7 s).view.loc (c : Thread nD τ)), (slot7 s).view.loc (c : Thread nD τ) ↦[(slot7 s).view.set]{fullShare} f)

theorem G6_emb (c : Dev nD) (s : Fin 16) (j : S512x256.Idx) : G6 A1 c ((slot6 s).view.emb j) = A1 (org c s) j := by
  rw [emb6]
  show A1 (org c s) _ = _
  congr 1; funext a; match a with
  | 0 => rfl
  | 1 => rfl
theorem G7_emb (c : Dev nD) (s : Fin 16) (j : S256x512.Idx) : G7 A2 c ((slot7 s).view.emb j) = A2 (org c s) j := by
  rw [emb7]
  show A2 (org c s) _ = _
  congr 1; funext a; match a with
  | 0 => rfl
  | 1 => rfl

/-- A slot written with a device's own block is the slot as it ends, when the block is that of its origin. -/
theorem put6 (c : Dev nD) (s : Fin 16) (q : PosShare TreeShare) (fd : Buf (Elt F) ((slot6 s).view.loc (c : Thread nD τ)))
    (w : S512x256.Idx → Elt F .bf16) (h : w = A1 (org c s)) :
    ((slot6 s).view.loc (c : Thread nD τ) ↦[(slot6 s).view.set]{q} ((slot6 s).view.write (Elt F) fd w Finset.univ) : sProp 𝕄) = P6 A1 c s q := by
  subst h
  unfold P6
  refine pointsTo_congr fun i hi => ?_
  obtain ⟨j, -, rfl⟩ := Finset.mem_map.mp hi
  rw [G6_emb, View.write_emb_of_mem _ _ (Finset.mem_univ _)]
  rfl
theorem put7 (c : Dev nD) (s : Fin 16) (q : PosShare TreeShare) (fd : Buf (Elt F) ((slot7 s).view.loc (c : Thread nD τ)))
    (w : S256x512.Idx → Elt F .bf16) (h : w = A2 (org c s)) :
    ((slot7 s).view.loc (c : Thread nD τ) ↦[(slot7 s).view.set]{q} ((slot7 s).view.write (Elt F) fd w Finset.univ) : sProp 𝕄) = P7 A2 c s q := by
  subst h
  unfold P7
  refine pointsTo_congr fun i hi => ?_
  obtain ⟨j, -, rfl⟩ := Finset.mem_map.mp hi
  rw [G7_emb, View.write_emb_of_mem _ _ (Finset.mem_univ _)]
  rfl

/-- What a slot holds at its end, read. -/
theorem read6 (c : Dev nD) (s : Fin 16) : (slot6 s).view.read (Elt F) (G6 A1 c) = A1 (org c s) :=
  funext fun j => G6_emb A1 c s j
theorem read7 (c : Dev nD) (s : Fin 16) : (slot7 s).view.read (Elt F) (G7 A2 c) = A2 (org c s) :=
  funext fun j => G7_emb A2 c s j

/-! ## The semaphores -/

/-- The barrier of the entry, and the one of the exit. -/
abbrev barS : Sem sig := (SemArray.scalar (sig.barrier 0 rfl) : Sems sig S_).sem
abbrev endS : Sem sig := cc0_scoped0.sem

/-- The four streams: projection and output weights to the right, projection and output weights to the left. -/
abbrev sBase : Fin 4 → ℕ := ![6, 22, 38, 52]
abbrev rBase : Fin 4 → ℕ := ![14, 30, 45, 59]
set_option backward.proofsInPublic true in
def sS (k : Fin 4) (j : ℕ) : DmaSem sig := ⟨(sBase k + j) % 66, Nat.mod_lt _ (by decide)⟩
set_option backward.proofsInPublic true in
def rS (k : Fin 4) (j : ℕ) : DmaSem sig := ⟨(rBase k + j) % 66, Nat.mod_lt _ (by decide)⟩

abbrev barCell (c : Dev nD) : GSem nD τ sig := ((c : Thread nD τ), .reg barS)
abbrev endCell (c : Dev nD) : GSem nD τ sig := ((c : Thread nD τ), .reg endS)
abbrev sCell (c : Dev nD) (k : Fin 4) (j : ℕ) : GSem nD τ sig := ((c : Thread nD τ), .dma (sS k j))
abbrev rCell (c : Dev nD) (k : Fin 4) (j : ℕ) : GSem nD τ sig := ((c : Thread nD τ), .dma (rS k j))

set_option backward.proofsInPublic true in
def sl (n : ℕ) : Fin 16 := ⟨n % 16, Nat.mod_lt _ (by decide)⟩

/-- The share of slot 0 a transfer to the left lends while one to the right lends half of it; of a later slot, half. -/
def cq (j : ℕ) : PosShare TreeShare := if j = 0 then fullShare.right.left else fullShare.left

/-- What a send cell's round gives back: the lent share of the slot the transfer read; -/
def sPay (c : Dev nD) (j : ℕ) : Fin 4 → sProp 𝕄
  | 0 => P6 A1 c (sl j) fullShare.left
  | 1 => P7 A2 c (sl j) fullShare.left
  | 2 => P6 A1 c (sl (16 - j)) (cq j)
  | 3 => P7 A2 c (sl (16 - j)) (cq j)
/-- a receive cell's: the slot the transfer wrote. -/
def rPay (c : Dev nD) (j : ℕ) : Fin 4 → sProp 𝕄
  | 0 => P6 A1 c (sl (j + 1)) fullShare
  | 1 => P7 A2 c (sl (j + 1)) fullShare
  | 2 => P6 A1 c (sl (15 - j)) fullShare
  | 3 => P7 A2 c (sl (15 - j)) fullShare

/-- The receive slots a device lends the neighbour that writes them at step `j`, with the word that their cells are open:
    to the left neighbour (which sends to the right), and to the right neighbour. -/
def lendL (c : Dev nD) (j : ℕ) : sProp 𝕄 :=
  iprop((W6 c (sl (j + 1)) ∗ reached ER (rCell c 0 j) 0) ∗ (W7 c (sl (j + 1)) ∗ reached ER (rCell c 1 j) 0))
def lendR (c : Dev nD) (j : ℕ) : sProp 𝕄 :=
  iprop((W6 c (sl (15 - j)) ∗ reached ER (rCell c 2 j) 0) ∗ (W7 c (sl (15 - j)) ∗ reached ER (rCell c 3 j) 0))

/-- What the entry barrier's signals carry to device `c`: from the left neighbour its slots written from the right, from the
    right neighbour its slots written from the left. -/
def barPay (c : Dev nD) : Bool → sProp 𝕄
  | true => iprop((bigSep (Finset.univ : Finset (Fin 7)) fun j => lendR (prv c) j.val) ∗ reached ER (endCell (prv c)) 0)
  | false => iprop((bigSep (Finset.univ : Finset (Fin 8)) fun j => lendL (nxt c) j.val) ∗ reached ER (endCell (nxt c)) 0)

def dmaPay (c : Dev nD) (n : ℕ) : sProp 𝕄 :=
  if n < 6 then iprop(emp)
  else if n < 14 then sPay A1 A2 c (n - 6) 0
  else if n < 22 then rPay A1 A2 c (n - 14) 0
  else if n < 30 then sPay A1 A2 c (n - 22) 1
  else if n < 38 then rPay A1 A2 c (n - 30) 1
  else if n < 45 then sPay A1 A2 c (n - 38) 2
  else if n < 52 then rPay A1 A2 c (n - 45) 2
  else if n < 59 then sPay A1 A2 c (n - 52) 3
  else rPay A1 A2 c (n - 59) 3

def regPay (c : Dev nD) (s : Sem sig) (d : Bool) : sProp 𝕄 := if s = barS then barPay c d else iprop(emp)

/-- The payers of a cell: both neighbours of a barrier, one transfer of any other. -/
def payers : SemLoc sig → Finset Bool
  | .reg _ => Finset.univ
  | .dma n => if n.val < 6 then ∅ else {true}
def amt : SemLoc sig → ℕ
  | .reg _ => 1
  | .dma _ => N

def semPay (c : Dev nD) : SemLoc sig → Bool → sProp 𝕄
  | .reg s => regPay c s
  | .dma n => fun _ => dmaPay A1 A2 c n.val

/-- One round on every cell. -/
def Rd : Rounds.Schedule (GSem nD τ sig) Bool 𝕄 where
  duties g r := if r = 0 ∧ g.1.2 = .tc then payers g.2 else ∅
  unitless _ := False
  amount g _ _ := amt g.2
  payload g _ d := semPay A1 A2 g.1.1 g.2 d
  amount_pos g _ _ _ := by
    obtain ⟨c, sm⟩ := g
    cases sm with
    | reg s => exact Nat.one_pos
    | dma n => exact N_pos

instance sPay_storable (c : Dev nD) (j : ℕ) (k : Fin 4) : BI.Storable (upEmb : UEmb _ 𝕄) (sPay A1 A2 c j k) := by
  match k with
  | 0 | 1 | 2 | 3 => unfold sPay P6 P7; infer_instance
instance rPay_storable (c : Dev nD) (j : ℕ) (k : Fin 4) : BI.Storable (upEmb : UEmb _ 𝕄) (rPay A1 A2 c j k) := by
  match k with
  | 0 | 1 | 2 | 3 => unfold rPay P6 P7; infer_instance
instance W6_storable (c : Dev nD) (s : Fin 16) : BI.Storable (upEmb : UEmb _ 𝕄) (W6 (F := F) c s) := by unfold W6; infer_instance
instance W7_storable (c : Dev nD) (s : Fin 16) : BI.Storable (upEmb : UEmb _ 𝕄) (W7 (F := F) c s) := by unfold W7; infer_instance
instance lendL_storable (c : Dev nD) (j : ℕ) : BI.Storable (upEmb : UEmb _ 𝕄) (lendL (F := F) c j) := by unfold lendL; infer_instance
instance lendR_storable (c : Dev nD) (j : ℕ) : BI.Storable (upEmb : UEmb _ 𝕄) (lendR (F := F) c j) := by unfold lendR; infer_instance
instance barPay_storable (c : Dev nD) (d : Bool) : BI.Storable (upEmb : UEmb _ 𝕄) (barPay (F := F) c d) := by
  match d with
  | true => show BI.Storable upEmb iprop((bigSep (Finset.univ : Finset (Fin 7)) fun j => lendR (prv c) j.val) ∗ reached ER (endCell (prv c)) 0)
            infer_instance
  | false => show BI.Storable upEmb iprop((bigSep (Finset.univ : Finset (Fin 8)) fun j => lendL (nxt c) j.val) ∗ reached ER (endCell (nxt c)) 0)
             infer_instance
instance regPay_storable (c : Dev nD) (s : Sem sig) (d : Bool) : BI.Storable (upEmb : UEmb _ 𝕄) (regPay (F := F) c s d) := by
  unfold regPay; split <;> infer_instance
instance dmaPay_storable (c : Dev nD) (n : ℕ) : BI.Storable (upEmb : UEmb _ 𝕄) (dmaPay A1 A2 c n) := by
  unfold dmaPay; (repeat' split) <;> infer_instance
instance Rd_payload_storable (g : GSem nD τ sig) (r : ℕ) (d : Bool) : BI.Storable (upEmb : UEmb _ 𝕄) ((Rd A1 A2).payload g r d) := by
  obtain ⟨⟨c, t⟩, sm⟩ := g
  cases sm with
  | reg s => show BI.Storable upEmb (regPay c s d)
             infer_instance
  | dma n => show BI.Storable upEmb (dmaPay A1 A2 c n.val)
             infer_instance

/-! ### The schedule, cell by cell -/

theorem ends_ne : (endS : Sem sig) ≠ barS := by decide

/-- How many transfers each stream makes. -/
abbrev cnt : Fin 4 → ℕ := ![8, 8, 7, 7]

theorem cnt_le : ∀ k : Fin 4, cnt k ≤ 8 := by decide
theorem sBase_ge : ∀ k : Fin 4, 6 ≤ sBase k := by decide
theorem rBase_ge : ∀ k : Fin 4, 6 ≤ rBase k := by decide

theorem sS_val (k : Fin 4) (j : ℕ) (h : j < cnt k) : (sS k j).val = sBase k + j := by
  have : ∀ k : Fin 4, ∀ j : Fin 8, j.val < cnt k → (sS k j.val).val = sBase k + j.val := by decide
  have hc : cnt k ≤ 8 := cnt_le k
  exact this k ⟨j, by omega⟩ h
theorem rS_val (k : Fin 4) (j : ℕ) (h : j < cnt k) : (rS k j).val = rBase k + j := by
  have : ∀ k : Fin 4, ∀ j : Fin 8, j.val < cnt k → (rS k j.val).val = rBase k + j.val := by decide
  have hc : cnt k ≤ 8 := cnt_le k
  exact this k ⟨j, by omega⟩ h

theorem payload_s (c : Dev nD) (k : Fin 4) (j : ℕ) (h : j < cnt k) (r : ℕ) (d : Bool) : (Rd A1 A2).payload (sCell c k j) r d = sPay A1 A2 c j k := by
  show dmaPay A1 A2 c (sS k j).val = _
  rw [sS_val k j h]
  unfold dmaPay
  match k, h with
  | 0, h => change j < 8 at h; change (if 6 + j < 6 then _ else if 6 + j < 14 then sPay A1 A2 c (6 + j - 6) 0 else _) = _
            rw [if_neg (by omega), if_pos (by omega), Nat.add_sub_cancel_left]
  | 1, h => change j < 8 at h; change (if 22 + j < 6 then _ else if 22 + j < 14 then _ else if 22 + j < 22 then _ else if 22 + j < 30 then sPay A1 A2 c (22 + j - 22) 1 else _) = _
            rw [if_neg (by omega), if_neg (by omega), if_neg (by omega), if_pos (by omega), Nat.add_sub_cancel_left]
  | 2, h => change j < 7 at h
            change (if 38 + j < 6 then _ else if 38 + j < 14 then _ else if 38 + j < 22 then _ else if 38 + j < 30 then _ else if 38 + j < 38 then _
              else if 38 + j < 45 then sPay A1 A2 c (38 + j - 38) 2 else _) = _
            rw [if_neg (by omega), if_neg (by omega), if_neg (by omega), if_neg (by omega), if_neg (by omega), if_pos (by omega), Nat.add_sub_cancel_left]
  | 3, h => change j < 7 at h
            change (if 52 + j < 6 then _ else if 52 + j < 14 then _ else if 52 + j < 22 then _ else if 52 + j < 30 then _ else if 52 + j < 38 then _
              else if 52 + j < 45 then _ else if 52 + j < 52 then _ else if 52 + j < 59 then sPay A1 A2 c (52 + j - 52) 3 else _) = _
            rw [if_neg (by omega), if_neg (by omega), if_neg (by omega), if_neg (by omega), if_neg (by omega), if_neg (by omega), if_neg (by omega),
              if_pos (by omega), Nat.add_sub_cancel_left]

theorem payload_r (c : Dev nD) (k : Fin 4) (j : ℕ) (h : j < cnt k) (r : ℕ) (d : Bool) : (Rd A1 A2).payload (rCell c k j) r d = rPay A1 A2 c j k := by
  show dmaPay A1 A2 c (rS k j).val = _
  rw [rS_val k j h]
  unfold dmaPay
  match k, h with
  | 0, h => change j < 8 at h
            change (if 14 + j < 6 then _ else if 14 + j < 14 then _ else if 14 + j < 22 then rPay A1 A2 c (14 + j - 14) 0 else _) = _
            rw [if_neg (by omega), if_neg (by omega), if_pos (by omega), Nat.add_sub_cancel_left]
  | 1, h => change j < 8 at h
            change (if 30 + j < 6 then _ else if 30 + j < 14 then _ else if 30 + j < 22 then _ else if 30 + j < 30 then _
              else if 30 + j < 38 then rPay A1 A2 c (30 + j - 30) 1 else _) = _
            rw [if_neg (by omega), if_neg (by omega), if_neg (by omega), if_neg (by omega), if_pos (by omega), Nat.add_sub_cancel_left]
  | 2, h => change j < 7 at h
            change (if 45 + j < 6 then _ else if 45 + j < 14 then _ else if 45 + j < 22 then _ else if 45 + j < 30 then _ else if 45 + j < 38 then _
              else if 45 + j < 45 then _ else if 45 + j < 52 then rPay A1 A2 c (45 + j - 45) 2 else _) = _
            rw [if_neg (by omega), if_neg (by omega), if_neg (by omega), if_neg (by omega), if_neg (by omega), if_neg (by omega), if_pos (by omega), Nat.add_sub_cancel_left]
  | 3, h => change j < 7 at h
            change (if 59 + j < 6 then _ else if 59 + j < 14 then _ else if 59 + j < 22 then _ else if 59 + j < 30 then _ else if 59 + j < 38 then _
              else if 59 + j < 45 then _ else if 59 + j < 52 then _ else if 59 + j < 59 then _ else rPay A1 A2 c (59 + j - 59) 3) = _
            rw [if_neg (by omega), if_neg (by omega), if_neg (by omega), if_neg (by omega), if_neg (by omega), if_neg (by omega), if_neg (by omega),
              if_neg (by omega), Nat.add_sub_cancel_left]

theorem duties_tc (c : Dev nD) (sm : SemLoc sig) : (Rd A1 A2).duties ((c : Thread nD τ), sm) 0 = payers sm := by
  show (if 0 = 0 ∧ (Proc.tc : Proc τ) = .tc then payers sm else ∅) = _
  exact if_pos ⟨rfl, rfl⟩
theorem duties_later (g : GSem nD τ sig) : ∀ r, 1 ≤ r → (Rd A1 A2).duties g r = ∅ := fun r hr => if_neg fun h => by omega
theorem payers_s (k : Fin 4) (j : ℕ) (h : j < cnt k) : payers (.dma (sS k j)) = {true} := by
  refine if_neg ?_
  rw [sS_val k j h]
  have : 6 ≤ sBase k := sBase_ge k
  omega
theorem payers_r (k : Fin 4) (j : ℕ) (h : j < cnt k) : payers (.dma (rS k j)) = {true} := by
  refine if_neg ?_
  rw [rS_val k j h]
  have : 6 ≤ rBase k := rBase_ge k
  omega
theorem duties_s (c : Dev nD) (k : Fin 4) (j : ℕ) (h : j < cnt k) : (Rd A1 A2).duties (sCell c k j) 0 = {true} :=
  (duties_tc A1 A2 c _).trans (payers_s k j h)
theorem duties_r (c : Dev nD) (k : Fin 4) (j : ℕ) (h : j < cnt k) : (Rd A1 A2).duties (rCell c k j) 0 = {true} :=
  (duties_tc A1 A2 c _).trans (payers_r k j h)
theorem expect_s (c : Dev nD) (k : Fin 4) (j : ℕ) (h : j < cnt k) : (Rd A1 A2).expect (sCell c k j) 0 = N := by
  unfold Schedule.expect Schedule.amountOf; rw [duties_s A1 A2 c k j h, Finset.sum_singleton]; rfl
theorem expect_r (c : Dev nD) (k : Fin 4) (j : ℕ) (h : j < cnt k) : (Rd A1 A2).expect (rCell c k j) 0 = N := by
  unfold Schedule.expect Schedule.amountOf; rw [duties_r A1 A2 c k j h, Finset.sum_singleton]; rfl
theorem expect_reg (c : Dev nD) (s : Sem sig) : (Rd A1 A2).expect ((c : Thread nD τ), .reg s) 0 = 2 := by
  unfold Schedule.expect Schedule.amountOf; rw [duties_tc]; rfl
theorem rest_s (c : Dev nD) (k : Fin 4) (j : ℕ) (h : j < cnt k) :
    bigSep ((Rd A1 A2).duties (sCell c k j) 0 \ ∅) (fun u => (Rd A1 A2).payload (sCell c k j) 0 u) = sPay A1 A2 c j k := by
  rw [Finset.sdiff_empty, duties_s A1 A2 c k j h, bigSep_singleton, payload_s A1 A2 c k j h]
theorem rest_r (c : Dev nD) (k : Fin 4) (j : ℕ) (h : j < cnt k) :
    bigSep ((Rd A1 A2).duties (rCell c k j) 0 \ ∅) (fun u => (Rd A1 A2).payload (rCell c k j) 0 u) = rPay A1 A2 c j k := by
  rw [Finset.sdiff_empty, duties_r A1 A2 c k j h, bigSep_singleton, payload_r A1 A2 c k j h]
theorem payload_bar (c : Dev nD) (r : ℕ) (d : Bool) : (Rd A1 A2).payload (barCell c) r d = barPay c d := by
  show regPay c barS d = _
  exact if_pos rfl
theorem payload_end (c : Dev nD) (r : ℕ) (d : Bool) : (Rd A1 A2).payload (endCell c) r d = iprop(emp) := by
  show regPay c endS d = _
  exact if_neg ends_ne
theorem rest_bar (c : Dev nD) :
    bigSep ((Rd A1 A2).duties (barCell c) 0 \ ∅) (fun u => (Rd A1 A2).payload (barCell c) 0 u) = iprop(barPay c true ∗ barPay c false) := by
  rw [Finset.sdiff_empty, duties_tc, show payers (.reg barS) = {true, false} from by decide, bigSep_insert (by decide), bigSep_singleton, payload_bar, payload_bar]
  rfl

end Contents

/-! ## What a device owes, and the levels -/

/-- The payments of a device in the order it makes them: the two entry signals, four transfers a step (two at the last), the
    two exit signals. -/
def payDir (i : ℕ) : Bool := if i < 2 then i = 1 else if i < 32 then (i - 2) % 4 < 2 else i = 33
def paySem (i : ℕ) : SemLoc sig := if i < 2 then .reg barS else if i < 32 then .dma (rS (Fin.ofNat 4 (i - 2)) ((i - 2) / 4)) else .reg endS
def payCell (c : Dev nD) (i : ℕ) : GSem nD τ sig := ((peer c (payDir i) : Thread nD τ), paySem i)

/-- What device `c` owes from payment `k` on. -/
def owed (c : Dev nD) (k : ℕ) : CellTallies nD τ sig Unit := ∑ i ∈ Finset.Ico k 34, tallyAt (payCell c i) () (amt (paySem i))

theorem owed_step (c : Dev nD) (k : ℕ) (h : k < 34) : owed c k = owed c (k + 1) + tallyAt (payCell c k) () (amt (paySem k)) := by
  unfold owed; rw [Finset.sum_eq_sum_Ico_succ_bot h, add_comm]
theorem owed_end (c : Dev nD) : owed c 34 = 0 := by unfold owed; rw [Finset.Ico_self, Finset.sum_empty]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The entry barrier at 1, the receive cells of step `j` at `2 + j`, the exit barrier on top, the rest at 0. -/
def lvS : SemLoc sig → ℕ
  | .reg s => if s = barS then 1 else 100
  | .dma n => if n.val < 14 then 0 else if n.val < 22 then n.val - 12 else if n.val < 30 then 0 else if n.val < 38 then n.val - 28
      else if n.val < 45 then 0 else if n.val < 52 then n.val - 43 else if n.val < 59 then 0 else n.val - 57
def lv (g : GSem nD τ sig) (_ : Unit) : ℕ := lvS g.2

theorem owed_pos (c : Dev nD) (k : ℕ) (g : GSem nD τ sig) (u : Unit) (h : 0 < owed c k g u) : ∃ i, k ≤ i ∧ i < 34 ∧ g = payCell c i := by
  by_contra hn
  refine absurd h ?_
  rw [Nat.not_lt, Nat.le_zero]
  unfold owed
  rw [Finset.sum_apply, Finsupp.finset_sum_apply]
  refine Finset.sum_eq_zero fun i hi => ?_
  obtain ⟨h1, h2⟩ := Finset.mem_Ico.mp hi
  rw [tallyAt_apply, if_neg]
  exact fun h => hn ⟨i, h1, h2, h.1⟩

/-- A device may wait on a cell whose level is below that of everything it still owes. -/
theorem mayWait (c : Dev nD) (k n : ℕ) (sm : SemLoc sig) (hsm : lvS sm ≤ n) (h : ∀ i, k ≤ i → i < 34 → n < lvS (paySem i)) :
    (levAts L lv : sProp 𝕄) ⊢ MayWait (c : Thread nD τ) sm () (owed c k) :=
  MayOwe.of_cut (L := L) (lev := lv) n (fun p hp => by rw [Finset.mem_singleton.mp hp, L_tc]; exact Finset.mem_singleton_self _)
    (fun g u hg => by
      obtain ⟨i, -, -, rfl⟩ := owed_pos c k g u hg
      unfold payCell
      rw [L_tc]; exact Finset.mem_singleton_self _)
    (fun p hp => by rw [Finset.mem_singleton.mp hp]; exact hsm)
    (fun g u hg => by
      obtain ⟨i, h1, h2, rfl⟩ := owed_pos c k g u hg
      exact h i h1 h2)

theorem lv_ge (h : Fin 9) (i : Fin 34) (hi : min (2 + 4 * h.val) 32 ≤ i.val) : h.val + 1 < lvS (paySem i.val) := by
  revert h i; decide +kernel

theorem owed_bar1 (c : Dev nD) : owed c 0 = owed c 1 + tallyAt (barCell (prv c)) () 1 := owed_step c 0 (by decide)
theorem owed_bar2 (c : Dev nD) : owed c 1 = owed c 2 + tallyAt (barCell (nxt c)) () 1 := owed_step c 1 (by decide)
theorem owed_end1 (c : Dev nD) : owed c 32 = owed c 33 + tallyAt (endCell (prv c)) () 1 := owed_step c 32 (by decide)
theorem owed_end2 (c : Dev nD) : owed c 33 = 0 + tallyAt (endCell (nxt c)) () 1 := by rw [← owed_end c]; exact owed_step c 33 (by decide)

/-- Transfer `k` of step `h` is the payment at that place of the order. -/
theorem owed_send (c : Dev nD) (h : ℕ) (k : Fin 4) (hk : h < cnt k) :
    owed c (2 + 4 * h + k.val) = owed c (2 + 4 * h + k.val + 1) + tallyAt (rCell (peer c (decide (k.val < 2))) k h) () N := by
  have hc : cnt k ≤ 8 := cnt_le k
  have e : ∀ (h : Fin 8) (k : Fin 4), h.val < cnt k → 2 + 4 * h.val + k.val < 34 ∧ payDir (2 + 4 * h.val + k.val) = decide (k.val < 2)
      ∧ paySem (2 + 4 * h.val + k.val) = .dma (rS k h.val) := by decide
  obtain ⟨h1, h2, h3⟩ := e ⟨h, by omega⟩ k hk
  rw [owed_step c _ h1]
  unfold payCell
  dsimp only at h2 h3
  rw [h2, h3]
  rfl

end Cert.KernelIdeal.Run
-- ==== Proof.BlockKI.lean ====
/-
  One step of the ring at a time: the records every device consults, what a transfer and a wait start from and leave, and the
  rules for the program's conditional waits and transfers.
-/
module

public import proofs.«01_k».proof.Proof.ProtoKI

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## Conditional resources -/

/-- A resource there is when a condition holds. -/
def onlyIf (p : Prop) [Decidable p] (P : sProp 𝕄) : sProp 𝕄 := if p then P else iprop(emp)
theorem onlyIf_pos {p : Prop} [Decidable p] (h : p) (P : sProp 𝕄) : onlyIf p P = P := if_pos h
theorem onlyIf_neg {p : Prop} [Decidable p] (h : ¬ p) (P : sProp 𝕄) : onlyIf p P = iprop(emp) := if_neg h

theorem bigSep_onlyIf {I : Type} [Fintype I] [DecidableEq I] (p : I → Prop) [DecidablePred p] (Φ : I → sProp 𝕄) :
    (bigSep (Finset.univ : Finset {x : I // p x}) fun x => Φ x.1) = bigSep (Finset.univ : Finset I) fun x => onlyIf (p x) (Φ x) := by
  rw [bigSep_subtype p Φ, bigSep_filter_split Finset.univ p (Φ := fun x => onlyIf (p x) (Φ x)),
    bigSep_congr (s := Finset.univ.filter fun i => ¬ p i) (Ψ := fun _ => (BI.emp : sProp 𝕄)) fun x hx => onlyIf_neg (Finset.mem_filter.mp hx).2 _,
    BI.bigSep_emp_const, bigSep_congr (s := Finset.univ.filter p) (Φ := fun x => onlyIf (p x) (Φ x)) fun x hx => onlyIf_pos (Finset.mem_filter.mp hx).2 _]
  exact (BI.equiv_iff.mp sep_emp).symm

/-! ## The cells -/

/-- The transfers of a device: step and stream. -/
abbrev KJ : Type := {x : Fin 8 × Fin 4 // x.1.val < cnt x.2}
/-- The cells the kernel's own semaphores make: the exit barrier; each transfer's send cell (`true`) and receive cell. -/
abbrev KI : Type := Option (KJ × Bool)
def osem : KI → SemLoc sig
  | none => .reg endS
  | some (x, true) => .dma (sS x.1.2 x.1.1.val)
  | some (x, false) => .dma (rS x.1.2 x.1.1.val)
theorem osem_inj : Function.Injective osem := by decide +kernel
theorem osem_ne_bar : ∀ k : KI, osem k ≠ .reg barS := by decide +kernel

set_option backward.proofsInPublic true in
def barEmb : Dev nD ↪ GSem nD τ sig := ⟨fun c => barCell c, fun _ _ h => congrArg (fun g : GSem nD τ sig => g.1.1) h⟩
set_option backward.proofsInPublic true in
def scEmb : Dev nD × KI ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem sc_mem (c : Dev nD) (k : KI) : ((c : Thread nD τ), osem k) ∈ (barCells ∪ scCells : Finset (GSem nD τ sig)) :=
  Finset.mem_union_right _ (Finset.mem_map_of_mem scEmb (Finset.mem_univ (c, k)))
theorem end_mem (c : Dev nD) : endCell c ∈ (barCells ∪ scCells : Finset (GSem nD τ sig)) := sc_mem c none
theorem s_mem (c : Dev nD) (k : Fin 4) (j : ℕ) (h : j < cnt k) : sCell c k j ∈ (barCells ∪ scCells : Finset (GSem nD τ sig)) :=
  sc_mem c (some (⟨(⟨j, Nat.lt_of_lt_of_le h (cnt_le k)⟩, k), h⟩, true))
theorem r_mem (c : Dev nD) (k : Fin 4) (j : ℕ) (h : j < cnt k) : rCell c k j ∈ (barCells ∪ scCells : Finset (GSem nD τ sig)) :=
  sc_mem c (some (⟨(⟨j, Nat.lt_of_lt_of_le h (cnt_le k)⟩, k), h⟩, false))

section Rules

variable (A1 : Dev nD → S512x256.Idx → Elt F .bf16) (A2 : Dev nD → S256x512.Idx → Elt F .bf16)

/-- What every device may consult: the cells' invariants under one map of names, and the levels. -/
def recs (κ : GSem nD τ sig → ℕ) : sProp 𝕄 :=
  iprop((bigSep (barCells ∪ scCells) fun g => cellInv ER (Rd A1 A2) (κ g) g) ∗ levAts L lv)
instance recs_persistent (κ : GSem nD τ sig → ℕ) : BI.Persistent (recs A1 A2 κ) := by unfold recs; infer_instance

theorem inv_of (κ : GSem nD τ sig → ℕ) {g : GSem nD τ sig} (hg : g ∈ (barCells ∪ scCells : Finset (GSem nD τ sig))) :
    (bigSep (barCells ∪ scCells) fun g => (cellInv ER (Rd A1 A2) (κ g) g : sProp 𝕄)) ⊢ cellInv ER (Rd A1 A2) (κ g) g :=
  bigSep_elim hg
theorem inv_at (κ : GSem nD τ sig → ℕ) {g : GSem nD τ sig} (hg : g ∈ (barCells ∪ scCells : Finset (GSem nD τ sig))) :
    recs A1 A2 κ ⊢ cellInv ER (Rd A1 A2) (κ g) g := by
  unfold recs
  iintro ⟨H, -⟩
  iapply (inv_of A1 A2 κ hg); iexact H
theorem levels_of (κ : GSem nD τ sig → ℕ) : recs A1 A2 κ ⊢ (levAts L lv : sProp 𝕄) := by
  unfold recs; iintro ⟨-, H⟩; iexact H

/-- A cell whose one round is over, closed: its counter is back, at zero. -/
theorem close (κ : GSem nD τ sig → ℕ) {g : GSem nD τ sig} (hg : g ∈ (barCells ∪ scCells : Finset (GSem nD τ sig))) :
    iprop(recs A1 A2 κ ∗ atPos ER g 1 ∅ 0) ⊢ (|={Set.univ}=> semVal g 0 : sProp 𝕄) := by
  iintro ⟨#HR, Hat⟩
  iapply (Rounds.cell_close ER (Rd A1 A2) (Set.mem_univ (κ g)) id (duties_later A1 A2 g))
  isplitr
  · iapply (inv_at A1 A2 κ hg); iexact HR
  iexact Hat

/-- The slot a transfer of stream `k` at step `j` writes on a device, at anything, with the word that its cell is open. -/
def lent (c : Dev nD) (j : ℕ) : Fin 4 → sProp 𝕄
  | 0 => iprop(W6 c (sl (j + 1)) ∗ reached ER (rCell c 0 j) 0)
  | 1 => iprop(W7 c (sl (j + 1)) ∗ reached ER (rCell c 1 j) 0)
  | 2 => iprop(W6 c (sl (15 - j)) ∗ reached ER (rCell c 2 j) 0)
  | 3 => iprop(W7 c (sl (15 - j)) ∗ reached ER (rCell c 3 j) 0)

/-- The neighbour stream `k` goes to. -/
abbrev dst (c : Dev nD) (k : Fin 4) : Dev nD := peer c (decide (k.val < 2))

/-- What a transfer starts from beside its source: its two tokens and the slot it writes. -/
def sTodo (c : Dev nD) (k : Fin 4) (j : ℕ) : sProp 𝕄 :=
  iprop(dutyTok ER (sCell c k j) 0 true ∗ reached ER (sCell c k j) 0 ∗ dutyTok ER (rCell (dst c k) k j) 0 true ∗ lent (dst c k) j k)
def sDone (c : Dev nD) (k : Fin 4) (j : ℕ) : sProp 𝕄 := cred (tallyAt (sCell c k j) () N)
/-- What a wait on a receive cell starts from; -/
def rTodo (c : Dev nD) (k : Fin 4) (j : ℕ) : sProp 𝕄 := iprop(cred (tallyAt (rCell c k j) () N) ∗ atPos ER (rCell c k j) 0 ∅ 0)
def rDone (c : Dev nD) (k : Fin 4) (j : ℕ) : sProp 𝕄 := atPos ER (rCell c k j) 1 ∅ 0

/-- What a device still owes from payment `n` on, whatever it has waited for. -/
def owing (c : Dev nD) (n : ℕ) : sProp 𝕄 := iprop(∃ W, owes (c : Thread nD τ) (owed c n) W)

variable [FloatOps F] [Named F]

abbrev 𝒱₀ : Variants := Variants.none

local notation "wpc" c => wp frame (wpE (defs₀ (F := F)) 𝒱₀ ((c : Dev nD) : Thread nD τ) none) Set.univ

/-- A wait on a cell of one round that is below everything owed. -/
theorem wait_one (κ : GSem nD τ sig → ℕ) (c : Dev nD) (sem : DmaSem sig) (n : ℕ)
    (hmem : ((c : Thread nD τ), SemLoc.dma sem) ∈ (barCells ∪ scCells : Finset (GSem nD τ sig)))
    (hexp : (Rd A1 A2).expect ((c : Thread nD τ), .dma sem) 0 = N) (Pay : sProp 𝕄)
    (hpay : bigSep ((Rd A1 A2).duties ((c : Thread nD τ), .dma sem) 0 \ ∅) (fun u => (Rd A1 A2).payload ((c : Thread nD τ), .dma sem) 0 u) = Pay)
    (hlev : ∀ i, n ≤ i → i < 34 → lvS (.dma sem) < lvS (paySem i))
    {sp sp' : Space} {s s' : Shape} {e e' : EltTy} {src : Memref sig .tc sp' s' e'} {dst : Memref sig .tc sp s e}
    (hdst : dst.view.dmaCredit = N) {h1 : src.view.WordExact} {h2 : dst.view.WordExact} {α : Type} {Q : α → sProp 𝕄}
    {k : PUnit → Prog (TpuEff nD τ sig (Elt F) Λ₀ .tc) α} :
    iprop(recs A1 A2 κ ∗ cred (tallyAt ((c : Thread nD τ), .dma sem) () N) ∗ atPos ER ((c : Thread nD τ), .dma sem) 0 ∅ 0 ∗ owing c n)
      ⊢ iprop(((Pay ∗ atPos ER ((c : Thread nD τ), .dma sem) 1 ∅ 0 ∗ owing c n) -∗ (wpc c) (k ⟨⟩) Q)
        -∗ (wpc c) (.op (.waitDma2 sem src dst h1 h2) k) Q) := by
  have e1 := mayWait (F := F) c n (lvS (.dma sem)) (.dma sem) (Nat.le_refl _) hlev
  have e3 := levels_of (F := F) A1 A2 κ
  have e2 := e3.trans e1
  unfold owing
  iintro ⟨#HR, Hc, Hat, ⟨%W, HO⟩⟩ Hk
  iapply (Rounds.wp_wait_rest_token 𝒱₀ ER (Rd A1 A2) (c : Thread nD τ) none (κ := κ ((c : Thread nD τ), .dma sem))
      (k' := N)
      (fun K => (wpE_waitDma2_eq 𝒱₀ (c : Thread nD τ) none Set.univ K).trans (by rw [hdst])) (Set.mem_univ _) () (O := owed c n) (W := W) (R := 0) (m := 0) (T := ∅)
      (by rw [hexp, Nat.zero_add])) $$ [Hc Hat HO]
  · isplitr; · iapply (inv_at A1 A2 κ hmem); iexact HR
    isplitl [Hc]; · iexact Hc
    isplitl [HO]; · iexact HO
    isplitr
    · iapply e2; iexact HR
    iexact Hat
  iintro ⟨HO, Hat, -, Hpay⟩
  iapply Hk
  isplitl [Hpay]; · iapply (Entails.of_eq hpay) $$ Hpay
  isplitl [Hat]; · iexact Hat
  iexists _; iexact HO

/-- The program's conditional wait on a receive cell: where it happens, the slot has arrived. -/
theorem recv_block (κ : GSem nD τ sig → ℕ) (c : Dev nD) (k : Fin 4) (j n : ℕ) {q : Prop} [Decidable q] {p : Prop} [Decidable p] (hpq : p ↔ q) (hq : q → j < cnt k)
    {sem : p → DmaSem sig} (hsem : ∀ h, sem h = rS k j)
    (hlev : q → ∀ i, n ≤ i → i < 34 → lvS (.dma (rS k j)) < lvS (paySem i))
    {sp sp' : Space} {s s' : Shape} {e e' : EltTy} {src : p → Memref sig .tc sp' s' e'} {dst : p → Memref sig .tc sp s e}
    (hdst : ∀ h, (dst h).view.dmaCredit = N) {h1 : ∀ h, (src h).view.WordExact} {h2 : ∀ h, (dst h).view.WordExact} {α : Type} {Q : α → sProp 𝕄}
    {K : Prog (TpuEff nD τ sig (Elt F) Λ₀ .tc) α} :
    iprop(recs A1 A2 κ ∗ onlyIf q (rTodo c k j) ∗ owing c n)
      ⊢ iprop(((onlyIf q iprop(rPay A1 A2 c j k ∗ rDone c k j) ∗ owing c n) -∗ (wpc c) K Q)
        -∗ (wpc c) (if h : p then (Prog.lift (.waitDma2 (sem h) (src h) (dst h) (h1 h) (h2 h)) >>= fun _ => K) else K) Q) := by
  by_cases h : q
  · have hp := hpq.mpr h
    rw [dif_pos hp, onlyIf_pos h, onlyIf_pos h]
    have hs := hsem hp
    generalize sem hp = sm at hs
    subst hs
    have := wait_one (k := fun _ => K) (Q := Q) (h1 := h1 hp) (h2 := h2 hp) A1 A2 κ c (rS k j) n (r_mem c k j (hq h)) (expect_r A1 A2 c k j (hq h)) _ (rest_r A1 A2 c k j (hq h)) (hlev h) (hdst hp)
    unfold rTodo rDone
    iintro ⟨HR, ⟨Hc, Hat⟩, HO⟩ Hk
    iapply this $$ [HR Hc Hat HO]
    · isplitl [HR]; · iexact HR
      isplitl [Hc]; · iexact Hc
      isplitl [Hat]; · iexact Hat
      iexact HO
    iintro ⟨HP, Hat, HO⟩
    iapply Hk
    isplitr [HO]
    · isplitl [HP]; · iexact HP
      iexact Hat
    iexact HO
  · rw [dif_neg (fun hp => h (hpq.mp hp)), onlyIf_neg h, onlyIf_neg h]
    iintro ⟨-, He, HO⟩ Hk
    iapply Hk
    isplitl [He]; · iexact He
    iexact HO

/-- One transfer of a slot of the projection weights, to a device `n` that is the stream's neighbour. -/
theorem send6 (κ : GSem nD τ sig → ℕ) (c n : Dev nD) (k : Fin 4) (j i : ℕ) (hj : j < cnt k) (hn : n = dst c k) (hi : i = 2 + 4 * j + k.val)
    (s t : Fin 16) (q : PosShare TreeShare) (hs : sPay A1 A2 c j k = P6 A1 c s q) (ht : rPay A1 A2 (dst c k) j k = P6 A1 (dst c k) t fullShare)
    (hl : (lent (dst c k) j k : sProp 𝕄) = iprop(W6 (dst c k) t ∗ reached ER (rCell (dst c k) k j) 0))
    (ho : org c s = org (dst c k) t)
    {hsc : (slot6 t : Memref sig (Dev.tc n : Thread nD τ).2.kind .vmem S512x256 .bf16).view.ref.isScScratch = false}
    {hsrc : (slot6 s).view.WordExact} {hdst : (slot6 t).view.WordExact}
    {hsem : DmaTarget.Typed .vmem (.dma (rS k j)) (.remote (Dev.tc n : Thread nD τ) (slot6 t : Memref sig .tc .vmem S512x256 .bf16) (.dma (sS k j)) hsc)}
    {α : Type} {Q : α → sProp 𝕄} {kk : PUnit → Prog (TpuEff nD τ sig (Elt F) Λ₀ .tc) α} :
    iprop(recs A1 A2 κ ∗ P6 A1 c s q ∗ sTodo c k j ∗ owing c i)
      ⊢ iprop(((sDone c k j ∗ owing c (i + 1)) -∗ (wpc c) (kk ⟨⟩) Q)
          -∗ (wpc c) (.op (.enqueueDma (slot6 s) (.remote (Dev.tc n : Thread nD τ) (slot6 t) (.dma (sS k j)) hsc) (.dma (rS k j)) hsrc hdst hsem) kk) Q) := by
  subst hn hi
  unfold owing sTodo
  rw [hl]
  unfold W6
  iintro ⟨#HR, HP, ⟨HtS, HrS, HtR, ⟨%fd, HW⟩, HrR⟩, ⟨%W, HO⟩⟩ Hk
  iapply (Rounds.wp_send_pointsTo 𝒱₀ ER (Rd A1 A2) (c : Thread nD τ) none (κ₁ := κ (sCell c k j)) (κ₂ := κ (rCell (dst c k) k j))
    (r₁ := 0) (r₂ := 0) (d₁ := true) (d₂ := true) (q := q) (fs := G6 A1 c) (fd := fd)
    (by rw [duties_s A1 A2 c k j hj]; exact Finset.mem_singleton_self _) (by rw [duties_r A1 A2 (dst c k) k j hj]; exact Finset.mem_singleton_self _)
    () () N (by exact credit6 t) rfl rfl (owed c (2 + 4 * j + k.val + 1)) (owed_send c j k hj) (W := W)
    (Entails.of_eq (by rw [payload_s A1 A2 c k j hj, hs]; rfl))
    (Entails.of_eq (by rw [payload_r A1 A2 (dst c k) k j hj, ht, read6]; exact put6 A1 (dst c k) t fullShare fd _ (by rw [ho])))) $$ [HP HtS HrS HtR HW HrR HO]
  · isplitr; · iapply (inv_at A1 A2 κ (s_mem c k j hj)); iexact HR
    isplitr; · iapply (inv_at A1 A2 κ (r_mem (dst c k) k j hj)); iexact HR
    isplitl [HP]; · unfold P6; iexact HP
    isplitl [HW]; · iexact HW
    isplitl [HO]; · iexact HO
    isplitl [HtS]; · iexact HtS
    isplitl [HrS]; · iexact HrS
    isplitl [HtR]; · iexact HtR
    iexact HrR
  iintro ⟨Hc, HO⟩
  iapply Hk
  unfold sDone
  isplitl [Hc]; · iexact Hc
  iexists _; iexact HO

/-- The program's conditional transfer of such a slot. -/
theorem send6_block (κ : GSem nD τ sig → ℕ) (c : Dev nD) (k : Fin 4) (j i i' : ℕ) {q : Prop} [Decidable q] {p : Prop} [Decidable p] (hpq : p ↔ q)
    (hj : q → j < cnt k) (hi : q → i = 2 + 4 * j + k.val ∧ i' = i + 1) (hi' : ¬ q → i' = i)
    (s t : Fin 16) (qs : PosShare TreeShare) (hs : sPay A1 A2 c j k = P6 A1 c s qs) (ht : rPay A1 A2 (dst c k) j k = P6 A1 (dst c k) t fullShare)
    (hl : (lent (dst c k) j k : sProp 𝕄) = iprop(W6 (dst c k) t ∗ reached ER (rCell (dst c k) k j) 0))
    (ho : q → org c s = org (dst c k) t)
    {nn : p → Dev nD} (hn : ∀ h, nn h = dst c k) {ss rs : p → DmaSem sig} (hss : ∀ h, ss h = sS k j) (hrs : ∀ h, rs h = rS k j)
    {src tgt : p → Memref sig .tc .vmem S512x256 .bf16} (hsrc : ∀ h, src h = slot6 s) (htgt : ∀ h, tgt h = slot6 t)
    {hsc : ∀ h, (tgt h : Memref sig (Dev.tc (nn h) : Thread nD τ).2.kind .vmem S512x256 .bf16).view.ref.isScScratch = false}
    {h1 : ∀ h, (src h).view.WordExact} {h2 : ∀ h, (tgt h).view.WordExact}
    {h3 : ∀ h, DmaTarget.Typed .vmem (.dma (rs h)) (.remote (Dev.tc (nn h) : Thread nD τ) (tgt h) (.dma (ss h)) (hsc h))}
    {α : Type} {Q : α → sProp 𝕄} {K : Prog (TpuEff nD τ sig (Elt F) Λ₀ .tc) α} :
    iprop(recs A1 A2 κ ∗ onlyIf q (P6 A1 c s qs) ∗ onlyIf q (sTodo c k j) ∗ owing c i)
      ⊢ iprop(((onlyIf q (sDone c k j) ∗ owing c i') -∗ (wpc c) K Q)
        -∗ (wpc c) (if h : p then (Prog.lift (.enqueueDma (src h) (.remote (Dev.tc (nn h) : Thread nD τ) (tgt h) (.dma (ss h)) (hsc h)) (.dma (rs h)) (h1 h) (h2 h) (h3 h))
            >>= fun _ => K) else K) Q) := by
  by_cases h : q
  · have hp := hpq.mpr h
    rw [dif_pos hp, onlyIf_pos h, onlyIf_pos h, onlyIf_pos h]
    obtain ⟨hi1, rfl⟩ := hi h
    have e1 := hss hp; have e2 := hrs hp; have e3 := hsrc hp; have e4 := htgt hp
    have g1 := h1 hp; have g2 := h2 hp; have g3 := h3 hp
    show _ ⊢ iprop(_ -∗ (wpc c) (.op (.enqueueDma (src hp) (.remote (Dev.tc (nn hp) : Thread nD τ) (tgt hp) (.dma (ss hp)) (hsc hp)) (.dma (rs hp)) g1 g2 g3) fun _ => K) Q)
    have g4 := hsc hp
    have e5 := hn hp
    revert g1 g2 g3 g4
    generalize ss hp = a1 at *; generalize rs hp = a2 at *; generalize src hp = a3 at *; generalize tgt hp = a4 at *; generalize nn hp = a5 at *
    subst e1 e2 e3 e4
    intro g1 g2 g3 g4
    exact send6 (kk := fun _ => K) (Q := Q) A1 A2 κ c a5 k j i (hj h) e5 hi1 s t qs hs ht hl (ho h)
  · rw [dif_neg (fun hp => h (hpq.mp hp)), onlyIf_neg h, onlyIf_neg h, onlyIf_neg h, hi' h]
    iintro ⟨-, He, -, HO⟩ Hk
    iapply Hk
    isplitl [He]; · iexact He
    iexact HO

/-- One transfer of a slot of the output weights, to a device `n` that is the stream's neighbour. -/
theorem send7 (κ : GSem nD τ sig → ℕ) (c n : Dev nD) (k : Fin 4) (j i : ℕ) (hj : j < cnt k) (hn : n = dst c k) (hi : i = 2 + 4 * j + k.val)
    (s t : Fin 16) (q : PosShare TreeShare) (hs : sPay A1 A2 c j k = P7 A2 c s q) (ht : rPay A1 A2 (dst c k) j k = P7 A2 (dst c k) t fullShare)
    (hl : (lent (dst c k) j k : sProp 𝕄) = iprop(W7 (dst c k) t ∗ reached ER (rCell (dst c k) k j) 0))
    (ho : org c s = org (dst c k) t)
    {hsc : (slot7 t : Memref sig (Dev.tc n : Thread nD τ).2.kind .vmem S256x512 .bf16).view.ref.isScScratch = false}
    {hsrc : (slot7 s).view.WordExact} {hdst : (slot7 t).view.WordExact}
    {hsem : DmaTarget.Typed .vmem (.dma (rS k j)) (.remote (Dev.tc n : Thread nD τ) (slot7 t : Memref sig .tc .vmem S256x512 .bf16) (.dma (sS k j)) hsc)}
    {α : Type} {Q : α → sProp 𝕄} {kk : PUnit → Prog (TpuEff nD τ sig (Elt F) Λ₀ .tc) α} :
    iprop(recs A1 A2 κ ∗ P7 A2 c s q ∗ sTodo c k j ∗ owing c i)
      ⊢ iprop(((sDone c k j ∗ owing c (i + 1)) -∗ (wpc c) (kk ⟨⟩) Q)
          -∗ (wpc c) (.op (.enqueueDma (slot7 s) (.remote (Dev.tc n : Thread nD τ) (slot7 t) (.dma (sS k j)) hsc) (.dma (rS k j)) hsrc hdst hsem) kk) Q) := by
  subst hn hi
  unfold owing sTodo
  rw [hl]
  unfold W7
  iintro ⟨#HR, HP, ⟨HtS, HrS, HtR, ⟨%fd, HW⟩, HrR⟩, ⟨%W, HO⟩⟩ Hk
  iapply (Rounds.wp_send_pointsTo 𝒱₀ ER (Rd A1 A2) (c : Thread nD τ) none (κ₁ := κ (sCell c k j)) (κ₂ := κ (rCell (dst c k) k j))
    (r₁ := 0) (r₂ := 0) (d₁ := true) (d₂ := true) (q := q) (fs := G7 A2 c) (fd := fd)
    (by rw [duties_s A1 A2 c k j hj]; exact Finset.mem_singleton_self _) (by rw [duties_r A1 A2 (dst c k) k j hj]; exact Finset.mem_singleton_self _)
    () () N (by exact credit7 t) rfl rfl (owed c (2 + 4 * j + k.val + 1)) (owed_send c j k hj) (W := W)
    (Entails.of_eq (by rw [payload_s A1 A2 c k j hj, hs]; rfl))
    (Entails.of_eq (by rw [payload_r A1 A2 (dst c k) k j hj, ht, read7]; exact put7 A2 (dst c k) t fullShare fd _ (by rw [ho])))) $$ [HP HtS HrS HtR HW HrR HO]
  · isplitr; · iapply (inv_at A1 A2 κ (s_mem c k j hj)); iexact HR
    isplitr; · iapply (inv_at A1 A2 κ (r_mem (dst c k) k j hj)); iexact HR
    isplitl [HP]; · unfold P7; iexact HP
    isplitl [HW]; · iexact HW
    isplitl [HO]; · iexact HO
    isplitl [HtS]; · iexact HtS
    isplitl [HrS]; · iexact HrS
    isplitl [HtR]; · iexact HtR
    iexact HrR
  iintro ⟨Hc, HO⟩
  iapply Hk
  unfold sDone
  isplitl [Hc]; · iexact Hc
  iexists _; iexact HO

/-- The program's conditional transfer of such a slot. -/
theorem send7_block (κ : GSem nD τ sig → ℕ) (c : Dev nD) (k : Fin 4) (j i i' : ℕ) {q : Prop} [Decidable q] {p : Prop} [Decidable p] (hpq : p ↔ q)
    (hj : q → j < cnt k) (hi : q → i = 2 + 4 * j + k.val ∧ i' = i + 1) (hi' : ¬ q → i' = i)
    (s t : Fin 16) (qs : PosShare TreeShare) (hs : sPay A1 A2 c j k = P7 A2 c s qs) (ht : rPay A1 A2 (dst c k) j k = P7 A2 (dst c k) t fullShare)
    (hl : (lent (dst c k) j k : sProp 𝕄) = iprop(W7 (dst c k) t ∗ reached ER (rCell (dst c k) k j) 0))
    (ho : q → org c s = org (dst c k) t)
    {nn : p → Dev nD} (hn : ∀ h, nn h = dst c k) {ss rs : p → DmaSem sig} (hss : ∀ h, ss h = sS k j) (hrs : ∀ h, rs h = rS k j)
    {src tgt : p → Memref sig .tc .vmem S256x512 .bf16} (hsrc : ∀ h, src h = slot7 s) (htgt : ∀ h, tgt h = slot7 t)
    {hsc : ∀ h, (tgt h : Memref sig (Dev.tc (nn h) : Thread nD τ).2.kind .vmem S256x512 .bf16).view.ref.isScScratch = false}
    {h1 : ∀ h, (src h).view.WordExact} {h2 : ∀ h, (tgt h).view.WordExact}
    {h3 : ∀ h, DmaTarget.Typed .vmem (.dma (rs h)) (.remote (Dev.tc (nn h) : Thread nD τ) (tgt h) (.dma (ss h)) (hsc h))}
    {α : Type} {Q : α → sProp 𝕄} {K : Prog (TpuEff nD τ sig (Elt F) Λ₀ .tc) α} :
    iprop(recs A1 A2 κ ∗ onlyIf q (P7 A2 c s qs) ∗ onlyIf q (sTodo c k j) ∗ owing c i)
      ⊢ iprop(((onlyIf q (sDone c k j) ∗ owing c i') -∗ (wpc c) K Q)
        -∗ (wpc c) (if h : p then (Prog.lift (.enqueueDma (src h) (.remote (Dev.tc (nn h) : Thread nD τ) (tgt h) (.dma (ss h)) (hsc h)) (.dma (rs h)) (h1 h) (h2 h) (h3 h))
            >>= fun _ => K) else K) Q) := by
  by_cases h : q
  · have hp := hpq.mpr h
    rw [dif_pos hp, onlyIf_pos h, onlyIf_pos h, onlyIf_pos h]
    obtain ⟨hi1, rfl⟩ := hi h
    have e1 := hss hp; have e2 := hrs hp; have e3 := hsrc hp; have e4 := htgt hp
    have g1 := h1 hp; have g2 := h2 hp; have g3 := h3 hp
    show _ ⊢ iprop(_ -∗ (wpc c) (.op (.enqueueDma (src hp) (.remote (Dev.tc (nn hp) : Thread nD τ) (tgt hp) (.dma (ss hp)) (hsc hp)) (.dma (rs hp)) g1 g2 g3) fun _ => K) Q)
    have g4 := hsc hp
    have e5 := hn hp
    revert g1 g2 g3 g4
    generalize ss hp = a1 at *; generalize rs hp = a2 at *; generalize src hp = a3 at *; generalize tgt hp = a4 at *; generalize nn hp = a5 at *
    subst e1 e2 e3 e4
    intro g1 g2 g3 g4
    exact send7 (kk := fun _ => K) (Q := Q) A1 A2 κ c a5 k j i (hj h) e5 hi1 s t qs hs ht hl (ho h)
  · rw [dif_neg (fun hp => h (hpq.mp hp)), onlyIf_neg h, onlyIf_neg h, onlyIf_neg h, hi' h]
    iintro ⟨-, He, -, HO⟩ Hk
    iapply Hk
    isplitl [He]; · iexact He
    iexact HO

end Rules

end Cert.KernelIdeal.Run
-- ==== Proof.ComputeKI.lean ====
/-
  The arithmetic of one slot: what the body adds to its output for the blocks of one ring slot, and the run of the loads and the
  store around it.
-/
module

public import proofs.«01_k».proof.Proof.BlockKI

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The bias of the scores: zero where query and key are of one batch and a block the mask lets through, the mask's constant elsewhere. -/
def bias : FVec F S256x256 .f32 := k0_pay1 (F := F) k0_pay36 k0_pay37 k0_pay38

/-- One head: scaled scores with the bias, the softmax of each row, the values it weighs, and their projection. -/
def headAcc (b : FVec F S256x256 .f32) (qh : FVec F S256x64 .bf16) (k v : Vec F S1x256x64 .bf16) (wo : FVec F S64x512 .bf16) : FVec F S256x512 .f32 :=
  let s : FVec F S256x256 .f32 := addf (mulf (matmul dot_S256x64_S256x64_S256x256_1_1_0_0_n_n none qh (shapeCast S256x64 k shapeCasts_S1x256x64_S256x64)
    (constant S256x256 .f32 0x00000000#32)) (broadcast S256x256 (Scalar.ofBits .f32 0x3E000000#32))) b
  let e : FVec F S256x256 .f32 := exp (subf s (broadcastTo S256x256 (shapeCast S256x1
    (multiReduction .maximumf [1] S256 s 0xFF800000#32 reduces_S256x256_S256 (.inl rfl) rfl) shapeCasts_S256_S256x1) broadcasts_S256x1_S256x256))
  let p : FVec F S256x256 .f32 := divf e (broadcastTo S256x256 (shapeCast S256x1
    (multiReduction .add [1] S256 e 0x00000000#32 reduces_S256x256_S256 (.inl rfl) rfl) shapeCasts_S256_S256x1) broadcasts_S256x1_S256x256)
  matmul dot_S256x64_S64x512_S256x512_1_0_0_1_n_n none
    (truncf .bf16 (matmul dot_S256x256_S256x64_S256x64_1_0_0_1_n_n none (truncf .bf16 p bitsLt_bf16_f32) (shapeCast S256x64 v shapeCasts_S1x256x64_S256x64)
      (constant S256x64 .f32 0x00000000#32)) bitsLt_bf16_f32) wo (constant S256x512 .f32 0x00000000#32)

/-- One slot: its four heads' sum, added to the output. -/
def slotUpd (b : FVec F S256x256 .f32) (x : FVec F S256x512 .bf16) (w6 : Vec F S1x512x256 .bf16) (w7 : Vec F S1x256x512 .bf16)
    (k0 v0 k1 v1 k2 v2 k3 v3 : Vec F S1x256x64 .bf16) (o : Vec F S256x512 .f32) : FVec F S256x512 .f32 :=
  let q : FVec F S256x256 .bf16 := truncf .bf16 (matmul dot_S256x512_S512x256_S256x256_1_0_0_1_n_n none x
    (shapeCast S512x256 w6 shapeCasts_S1x512x256_S512x256) (constant S256x256 .f32 0x00000000#32)) bitsLt_bf16_f32
  let w : FVec F S256x512 .bf16 := shapeCast S256x512 w7 shapeCasts_S1x256x512_S256x512
  addf (shapeCast S256x512 o shapeCasts_S256x512_S256x512)
    (addf (addf (addf (addf (broadcast S256x512 (Scalar.ofBits .f32 0x00000000#32))
      (headAcc b (extractStridedSlice S256x64 ![0, 0] q slices_S256x256_o0_0_S256x64) k0 v0 (extractStridedSlice S64x512 ![0, 0] w slices_S256x512_o0_0_S64x512)))
      (headAcc b (extractStridedSlice S256x64 ![0, 64] q slices_S256x256_o0_64_S256x64) k1 v1 (extractStridedSlice S64x512 ![64, 0] w slices_S256x512_o64_0_S64x512)))
      (headAcc b (extractStridedSlice S256x64 ![0, 128] q slices_S256x256_o0_128_S256x64) k2 v2 (extractStridedSlice S64x512 ![128, 0] w slices_S256x512_o128_0_S64x512)))
      (headAcc b (extractStridedSlice S256x64 ![0, 192] q slices_S256x256_o0_192_S256x64) k3 v3 (extractStridedSlice S64x512 ![192, 0] w slices_S256x512_o192_0_S64x512)))

section Eqs
variable (b : FVec F S256x256 .f32) (x : FVec F S256x512 .bf16) (w6 : Vec F S1x512x256 .bf16) (w7 : Vec F S1x256x512 .bf16)
    (k0 v0 k1 v1 k2 v2 k3 v3 : Vec F S1x256x64 .bf16) (o : Vec F S256x512 .f32)

/-- The first step's spelling of a slot's update, -/
theorem upd_first : k0_pay3 (k0_pay13 (k0_pay6 w7) (k0_pay10 b (k0_pay6 w7) (k0_pay7 x w6) (k0_pay8 (F := F)) (k0_pay9 b x w6 w7 k0 v0) k1 v1)
      (k0_pay11 b (k0_pay7 x w6) k2) (k0_pay12 b (k0_pay7 x w6) k2) v2) (k0_pay14 b (k0_pay6 w7) (k0_pay7 x w6) k3 v3) o
    = slotUpd b x w6 w7 k0 v0 k1 v1 k2 v2 k3 v3 o := rfl
/-- the one of the slots written from the left, -/
theorem upd_right : k0_pay4 (k0_pay23 (k0_pay15 w7) (k0_pay20 b (k0_pay15 w7) (k0_pay16 x w6) (k0_pay17 (F := F)) (k0_pay18 b x w6 k0 v0) (k0_pay19 w7)
      (constant S256x512 .f32 0x00000000#32) k1 v1)
      (k0_pay21 b (k0_pay16 x w6) k2) (k0_pay22 b (k0_pay16 x w6) k2) v2) (k0_pay24 b (k0_pay16 x w6) k3 v3) (k0_pay25 (k0_pay15 w7))
      (constant S256x512 .f32 0x00000000#32) o
    = slotUpd b x w6 w7 k0 v0 k1 v1 k2 v2 k3 v3 o := rfl
/-- and the one of those written from the right. -/
theorem upd_left : k0_pay5 (k0_pay32 b (k0_pay26 w7) (k0_pay27 x w6) (k0_pay29 b (k0_pay26 w7) (k0_pay27 x w6) (k0_pay28 b x w6 w7 k0 v0) k1 v1)
      (k0_pay30 b (k0_pay27 x w6) k2) (k0_pay31 b (k0_pay27 x w6) k2) v2 k3 v3) o
    = slotUpd b x w6 w7 k0 v0 k1 v1 k2 v2 k3 v3 o := rfl
end Eqs

/-! ## What the loads bring -/

abbrev m0 : Memref sig .tc .vmem S256x512 .bf16 := Memref.whole cc0_stg0_0
abbrev m1 : Memref sig .tc .vmem S512x256 .bf16 := Memref.whole cc0_stg1_0
abbrev m2 : Memref sig .tc .vmem S256x512 .bf16 := Memref.whole cc0_stg2_0
abbrev m3 : Memref sig .tc .vmem S64x256x64 .bf16 := Memref.whole cc0_stg3_0
abbrev m4 : Memref sig .tc .vmem S64x256x64 .bf16 := Memref.whole cc0_stg4_0
abbrev m5 : Memref sig .tc .vmem S256x512 .f32 := Memref.whole cc0_stg5_0

theorem inbH (n : Fin 64) : ∀ a, (![n.val, 0, 0] : Fin 3 → Nat) a + S1x256x64.size a ≤ S64x256x64.size a := by revert n; decide
abbrev rectH (n : Fin 64) : Rect S64x256x64 := Rect.unit (s := S64x256x64) ![n.val, 0, 0] S1x256x64.size (inbH n)

/-- Head `n` of the keys, and of the values. -/
def rowK (K : S64x256x64.Idx → Elt F .bf16) (n : Fin 64) : Vec F S1x256x64 .bf16 := m3.view.readAt (Elt F) (rectH n).toLoadRect K
def rowV (V : S64x256x64.Idx → Elt F .bf16) (n : Fin 64) : Vec F S1x256x64 .bf16 := m4.view.readAt (Elt F) (rectH n).toLoadRect V

set_option backward.proofsInPublic true in
/-- The heads of the block in slot `s`. -/
def hd (c : Dev nD) (s : Fin 16) (r : Fin 4) : Fin 64 := ⟨(org c s).val * 4 + r.val, by have h1 := (org c s).isLt; have h2 := r.isLt; change _ < 16 at h1; omega⟩

section Step
variable (A1 : Dev nD → S512x256.Idx → Elt F .bf16) (A2 : Dev nD → S256x512.Idx → Elt F .bf16)
  (X : S256x512.Idx → Elt F .bf16) (K V : S64x256x64.Idx → Elt F .bf16)

def slab6 (c : Dev nD) (s : Fin 16) : Vec F S1x512x256 .bf16 := q6.view.readAt (Elt F) (rect6 s).toLoadRect (G6 A1 c)
def slab7 (c : Dev nD) (s : Fin 16) : Vec F S1x256x512 .bf16 := q7.view.readAt (Elt F) (rect7 s).toLoadRect (G7 A2 c)

/-- The output after the blocks of slot `s` are added to it. -/
def stepOut (c : Dev nD) (s : Fin 16) (o : Vec F S256x512 .f32) : Vec F S256x512 .f32 :=
  slotUpd bias (k0_pay2 X) (slab6 A1 c s) (slab7 A2 c s) (rowK K (hd c s 0)) (rowV V (hd c s 0)) (rowK K (hd c s 1)) (rowV V (hd c s 1))
    (rowK K (hd c s 2)) (rowV V (hd c s 2)) (rowK K (hd c s 3)) (rowV V (hd c s 3)) o

/-- The output before step `h`. -/
def accAt (c : Dev nD) : ℕ → Vec F S256x512 .f32
  | 0 => k0_pay35 (F := F)
  | h + 1 => if 1 ≤ h ∧ h ≤ 7 then stepOut A1 A2 X K V c (sl (16 - h)) (stepOut A1 A2 X K V c (sl h) (accAt c h))
      else stepOut A1 A2 X K V c (sl h) (accAt c h)

local notation "wpc" c => wp frame (wpE (defs₀ (F := F)) 𝒱₀ ((c : Dev nD) : Thread nD τ) none) Set.univ

theorem slot6_set (s : Fin 16) : q6.view.setOn (rect6 s).toLoadRect.set ⊆ (slot6 s).view.set := by
  have : (slot6 s).view.set = (q6.access (rect6 s)).set := View.set_reshape _ _
  rw [this, View.set_slice]; exact Finset.Subset.refl _
theorem slot7_set (s : Fin 16) : q7.view.setOn (rect7 s).toLoadRect.set ⊆ (slot7 s).view.set := by
  have : (slot7 s).view.set = (q7.access (rect7 s)).set := View.set_reshape _ _
  rw [this, View.set_slice]; exact Finset.Subset.refl _

theorem zero2 : (![0, 0] : Fin 2 → Nat) = fun _ => 0 := by decide

omit [FloatOps F] [Named F] in
theorem read5 {i} (o : S256x512.Idx → Elt F .f32) : m5.view.readAt (Elt F) (Rect.unit (s := S256x512) ![0, 0] S256x512.size i).toLoadRect o = o :=
  Memref.readAt_unit_zero (Elt F) cc0_stg5_0 zero2 i o
omit [FloatOps F] [Named F] in
theorem write5 {i} (o w : S256x512.Idx → Elt F .f32) :
    (m5.access (Rect.unit (s := S256x512) ![0, 0] S256x512.size i)).write (Elt F) o w Finset.univ = w :=
  Memref.write_access_unit_zero_univ (Elt F) cc0_stg5_0 zero2 i o w

/-- The run of one slot's loads and its store, on a program that spells the offsets and the update in its own way. -/
theorem slot_block (c : Dev nD) (s : Fin 16) (qa qb : PosShare TreeShare) (o : Vec F S256x512 .f32)
    {o6 o7 a0 a1 a2 a3 : Fin 3 → Nat} (h6 : o6 = ![s.val, 0, 0]) (h7 : o7 = ![s.val, 0, 0])
    (e0 : a0 = ![(hd c s 0).val, 0, 0]) (e1 : a1 = ![(hd c s 1).val, 0, 0]) (e2 : a2 = ![(hd c s 2).val, 0, 0]) (e3 : a3 = ![(hd c s 3).val, 0, 0])
    {i6 i7 j0 j1 j2 j3 k0 k1 k2 k3 i5 i5' i5''} {l6 l7 p0 p1 p2 p3 r0 r1 r2 r3 l5 l5' hx hm}
    {upd : Vec F S1x512x256 .bf16 → Vec F S1x256x512 .bf16 → Vec F S1x256x64 .bf16 → Vec F S1x256x64 .bf16 → Vec F S1x256x64 .bf16 → Vec F S1x256x64 .bf16
      → Vec F S1x256x64 .bf16 → Vec F S1x256x64 .bf16 → Vec F S1x256x64 .bf16 → Vec F S1x256x64 .bf16 → Vec F S256x512 .f32 → Vec F S256x512 .f32}
    (hu : ∀ w6 w7 k0 v0 k1 v1 k2 v2 k3 v3 o, upd w6 w7 k0 v0 k1 v1 k2 v2 k3 v3 o = slotUpd bias (k0_pay2 X) w6 w7 k0 v0 k1 v1 k2 v2 k3 v3 o)
    {α : Type} {Q : α → sProp 𝕄} {KK : Prog (TpuEff nD τ sig (Elt F) Λ₀ .tc) α} :
    iprop(P6 A1 c s qa ∗ P7 A2 c s qb ∗ ((c : Thread nD τ).loc cc0_stg3_0 ↦{fullShare} K) ∗ ((c : Thread nD τ).loc cc0_stg4_0 ↦{fullShare} V) ∗ ((c : Thread nD τ).loc cc0_stg5_0 ↦{fullShare} o))
      ⊢ iprop(((P6 A1 c s qa ∗ P7 A2 c s qb ∗ ((c : Thread nD τ).loc cc0_stg3_0 ↦{fullShare} K) ∗ ((c : Thread nD τ).loc cc0_stg4_0 ↦{fullShare} V)
            ∗ ((c : Thread nD τ).loc cc0_stg5_0 ↦{fullShare} (stepOut A1 A2 X K V c s o : Vec F S256x512 .f32))) -∗ (wpc c) KK Q)
        -∗ (wpc c) (.op (.load q6 (Rect.unit (s := S16x512x256) o6 S1x512x256.size i6).toLoadRect l6) fun w6 =>
          .op (.load q7 (Rect.unit (s := S16x256x512) o7 S1x256x512.size i7).toLoadRect l7) fun w7 =>
          .op (.load m3 (Rect.unit (s := S64x256x64) a0 S1x256x64.size j0).toLoadRect p0) fun x0 =>
          .op (.load m4 (Rect.unit (s := S64x256x64) a0 S1x256x64.size k0).toLoadRect r0) fun y0 =>
          .op (.load m3 (Rect.unit (s := S64x256x64) a1 S1x256x64.size j1).toLoadRect p1) fun x1 =>
          .op (.load m4 (Rect.unit (s := S64x256x64) a1 S1x256x64.size k1).toLoadRect r1) fun y1 =>
          .op (.load m3 (Rect.unit (s := S64x256x64) a2 S1x256x64.size j2).toLoadRect p2) fun x2 =>
          .op (.load m4 (Rect.unit (s := S64x256x64) a2 S1x256x64.size k2).toLoadRect r2) fun y2 =>
          .op (.load m3 (Rect.unit (s := S64x256x64) a3 S1x256x64.size j3).toLoadRect p3) fun x3 =>
          .op (.load m4 (Rect.unit (s := S64x256x64) a3 S1x256x64.size k3).toLoadRect r3) fun y3 =>
          .op (.load m5 (Rect.unit (s := S256x512) ![0, 0] S256x512.size i5).toLoadRect l5) fun o₁ =>
          .op (.load m5 (Rect.unit (s := S256x512) ![0, 0] S256x512.size i5').toLoadRect l5') fun _ =>
          .op (.store m5 (Rect.unit (s := S256x512) ![0, 0] S256x512.size i5'') (upd w6 w7 x0 y0 x1 y1 x2 y2 x3 y3 o₁) Finset.univ hx hm) fun _ => KK) Q) := by
  subst h6 h7 e0 e1 e2 e3
  unfold P6 P7
  iintro ⟨H6, H7, HK, HV, HO⟩ Hk
  iapply (wp_load 𝒱₀ (c : Thread nD τ) none Set.univ (m := q6) (slot6_set s)) $$ H6; iintro H6
  iapply (wp_load 𝒱₀ (c : Thread nD τ) none Set.univ (m := q7) (slot7_set s)) $$ H7; iintro H7
  iapply (wp_load 𝒱₀ (c : Thread nD τ) none Set.univ (m := m3) (Finset.subset_univ _)) $$ HK; iintro HK
  iapply (wp_load 𝒱₀ (c : Thread nD τ) none Set.univ (m := m4) (Finset.subset_univ _)) $$ HV; iintro HV
  iapply (wp_load 𝒱₀ (c : Thread nD τ) none Set.univ (m := m3) (Finset.subset_univ _)) $$ HK; iintro HK
  iapply (wp_load 𝒱₀ (c : Thread nD τ) none Set.univ (m := m4) (Finset.subset_univ _)) $$ HV; iintro HV
  iapply (wp_load 𝒱₀ (c : Thread nD τ) none Set.univ (m := m3) (Finset.subset_univ _)) $$ HK; iintro HK
  iapply (wp_load 𝒱₀ (c : Thread nD τ) none Set.univ (m := m4) (Finset.subset_univ _)) $$ HV; iintro HV
  iapply (wp_load 𝒱₀ (c : Thread nD τ) none Set.univ (m := m3) (Finset.subset_univ _)) $$ HK; iintro HK
  iapply (wp_load 𝒱₀ (c : Thread nD τ) none Set.univ (m := m4) (Finset.subset_univ _)) $$ HV; iintro HV
  iapply (wp_load 𝒱₀ (c : Thread nD τ) none Set.univ (m := m5) (Finset.subset_univ _)) $$ HO; iintro HO
  iapply (wp_load 𝒱₀ (c : Thread nD τ) none Set.univ (m := m5) (Finset.subset_univ _)) $$ HO; iintro HO
  iapply (wp_store 𝒱₀ (c : Thread nD τ) none Set.univ (m := m5) (r := Rect.unit (s := S256x512) ![0, 0] S256x512.size i5'') (S := Finset.univ) (Finset.subset_univ _)) $$ HO; iintro HO
  iapply Hk
  isplitl [H6]; · iexact H6
  isplitl [H7]; · iexact H7
  isplitl [HK]; · iexact HK
  isplitl [HV]; · iexact HV
  iapply (Entails.of_eq (congrArg (fun w => ((c : Thread nD τ).loc cc0_stg5_0 ↦{fullShare} w : sProp 𝕄))
    ((write5 (i := i5'') o _).trans ((hu _ _ _ _ _ _ _ _ _ _ _).trans (by rw [read5]; rfl))))) $$ HO

end Step

end Cert.KernelIdeal.Run
-- ==== Proof.TripKI.lean ====
/-
  One step of the ring's loop: the waits and the transfers of the step, then the arithmetic of the slots it consumes.
-/
module

public import proofs.«01_k».proof.Proof.ComputeKI

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- The receive of stream `k` that step `h` waits for is that of the step before, where there is one. -/
abbrev rq (k : Fin 4) (h : ℕ) : Prop := 1 ≤ h ∧ h - 1 < cnt k
abbrev sq (k : Fin 4) (h : ℕ) : Prop := h < cnt k
abbrev two (h : ℕ) : Prop := 1 ≤ h ∧ h ≤ 7

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Shares of a slot -/

/-- What the body keeps of the slot written from the left that step `h` consumes, -/
def kq (h : ℕ) : PosShare TreeShare := if h = 0 then fullShare.right.right else if h ≤ 7 then fullShare.right else fullShare
/-- and of the slot written from the right. -/
def kq' (h : ℕ) : PosShare TreeShare := if h ≤ 6 then fullShare.right else fullShare

/-- The slot step `h` sends to the right: half is lent to the transfer; at the first step the other half is halved again. -/
theorem share_right (P : Fin 16 → PosShare TreeShare → sProp 𝕄)
    (hP : ∀ (s : Fin 16) (q : PosShare TreeShare), P s q = iprop(P s q.left ∗ P s q.right)) (h : ℕ) (hh : h < 9) :
    iprop(onlyIf (rq 0 h) (P (sl (h - 1 + 1)) fullShare) ∗ onlyIf (h = 0) (P (sl 0) fullShare))
      ⊢ iprop(onlyIf (sq 0 h) (P (sl h) fullShare.left) ∗ onlyIf (h = 0) (P (sl 0) fullShare.right.left) ∗ P (sl h) (kq h)) := by
  by_cases h0 : h = 0
  · subst h0
    rw [onlyIf_neg (show ¬ rq 0 0 from by decide), onlyIf_pos (rfl : 0 = 0), onlyIf_pos (show sq 0 0 from by decide), onlyIf_pos (rfl : 0 = 0), hP (sl 0) fullShare, hP (sl 0) fullShare.right, show kq 0 = fullShare.right.right from if_pos rfl]
    iintro ⟨-, H1, H2, H3⟩
    isplitl [H1]; · iexact H1
    isplitl [H2]; · iexact H2
    iexact H3
  · have h1 : 1 ≤ h := Nat.one_le_iff_ne_zero.mpr h0
    have hr : rq 0 h := ⟨h1, by change h - 1 < 8; omega⟩
    rw [onlyIf_pos hr, onlyIf_neg h0, onlyIf_neg h0, Nat.sub_add_cancel h1]
    by_cases h8 : h < 8
    · rw [onlyIf_pos (show sq 0 h from h8), hP (sl h) fullShare, show kq h = fullShare.right from (if_neg h0).trans (if_pos (by omega))]
      iintro ⟨⟨H1, H2⟩, -⟩
      isplitl [H1]; · iexact H1
      isplitr; · iempintro
      iexact H2
    · rw [onlyIf_neg (show ¬ sq 0 h from h8), show kq h = fullShare from (if_neg h0).trans (if_neg (by omega))]
      iintro ⟨H1, -⟩
      isplitr; · iempintro
      isplitr; · iempintro
      iexact H1

/-- The slot step `h` sends to the left. -/
theorem share_left (P : Fin 16 → PosShare TreeShare → sProp 𝕄)
    (hP : ∀ (s : Fin 16) (q : PosShare TreeShare), P s q = iprop(P s q.left ∗ P s q.right)) (h : ℕ) (hh : h < 9) :
    iprop(onlyIf (rq 2 h) (P (sl (15 - (h - 1))) fullShare) ∗ onlyIf (h = 0) (P (sl 0) fullShare.right.left))
      ⊢ iprop(onlyIf (sq 2 h) (P (sl (16 - h)) (cq h)) ∗ onlyIf (two h) (P (sl (16 - h)) (kq' h))) := by
  by_cases h0 : h = 0
  · subst h0
    rw [onlyIf_neg (show ¬ rq 2 0 from by decide), onlyIf_pos (rfl : 0 = 0), onlyIf_pos (show sq 2 0 from by decide), onlyIf_neg (show ¬ two 0 from by decide), show sl (16 - 0) = sl 0 from by decide, show cq 0 = fullShare.right.left from if_pos rfl]
    iintro ⟨-, H1⟩
    isplitl [H1]; · iexact H1
    iempintro
  · have h1 : 1 ≤ h := Nat.one_le_iff_ne_zero.mpr h0
    rw [onlyIf_neg h0, show 15 - (h - 1) = 16 - h from by omega]
    by_cases h8 : h < 8
    · rw [onlyIf_pos (show rq 2 h from ⟨h1, by change h - 1 < 7; omega⟩), onlyIf_pos (show two h from ⟨h1, by omega⟩)]
      by_cases h7 : h < 7
      · rw [onlyIf_pos (show sq 2 h from h7), hP (sl (16 - h)) fullShare, show cq h = fullShare.left from if_neg h0,
          show kq' h = fullShare.right from if_pos (by omega)]
        iintro ⟨H, -⟩
        iexact H
      · rw [onlyIf_neg (show ¬ sq 2 h from h7), show kq' h = fullShare from if_neg (by omega)]
        iintro ⟨H, -⟩
        isplitr; · iempintro
        iexact H
    · rw [onlyIf_neg (show ¬ rq 2 h from fun hh => h8 (by have := hh.2; change h - 1 < 7 at this; omega)), onlyIf_neg (show ¬ two h from fun hh => h8 (by have := hh.2; omega)),
        onlyIf_neg (show ¬ sq 2 h from fun hh => h8 (by change h < 7 at hh; omega))]

/-! ## The program's numbers, in closed form -/

theorem c1_iff : ∀ t, k0_cond1 t = 1#1 ↔ rq 0 t.val := by decide +kernel
theorem c2_iff : ∀ t, k0_cond2 t = 1#1 ↔ sq 0 t.val := by decide +kernel
theorem c3_iff : ∀ t, k0_cond3 t = 1#1 ↔ rq 1 t.val := by decide +kernel
theorem c4_iff : ∀ t, k0_cond4 t = 1#1 ↔ sq 1 t.val := by decide +kernel
theorem c5_iff : ∀ t, k0_cond5 t = 1#1 ↔ rq 2 t.val := by decide +kernel
theorem c6_iff : ∀ t, k0_cond6 t = 1#1 ↔ sq 2 t.val := by decide +kernel
theorem c7_iff : ∀ t, k0_cond7 t = 1#1 ↔ rq 3 t.val := by decide +kernel
theorem c8_iff : ∀ t, k0_cond8 t = 1#1 ↔ sq 3 t.val := by decide +kernel
theorem c9_iff : ∀ t, k0_cond9 t = 1#1 ↔ t.val = 0 := by decide +kernel
theorem c10_iff : ∀ t, k0_cond10 t = 1#1 ↔ 1 ≤ t.val := by decide +kernel
theorem c11_iff : ∀ t, k0_cond11 t = 1#1 ↔ two t.val := by decide +kernel

abbrev sem8 (a : DmaSems sig S8) (off : Fin 1 → Nat) (h : ∀ x, off x + S1.size x ≤ S8.size x) : DmaSem sig :=
  ((a.slice (Rect.unit (s := S8) off S1.size h)).squeeze S_ squeezes_S1_S_).sem
abbrev sem7 (a : DmaSems sig S7) (off : Fin 1 → Nat) (h : ∀ x, off x + S1.size x ≤ S7.size x) : DmaSem sig :=
  ((a.slice (Rect.unit (s := S7) off S1.size h)).squeeze S_ squeezes_S1_S_).sem

theorem w1 : ∀ t (h : k0_cond1 t = 1#1), sem8 cc0_scratch3 (k0_off1 t) (k0_off1_inb t h) = rS 0 (t.val - 1) := by decide +kernel
theorem w3 : ∀ t (h : k0_cond3 t = 1#1), sem8 cc0_scratch5 (k0_off7 t) (k0_off7_inb t h) = rS 1 (t.val - 1) := by decide +kernel
theorem w5 : ∀ t (h : k0_cond5 t = 1#1), sem7 cc0_scratch7 (k0_off13 t) (k0_off13_inb t h) = rS 2 (t.val - 1) := by decide +kernel
theorem w7 : ∀ t (h : k0_cond7 t = 1#1), sem7 cc0_scratch9 (k0_off18 t) (k0_off18_inb t h) = rS 3 (t.val - 1) := by decide +kernel
theorem s2 : ∀ t (h : k0_cond2 t = 1#1), sem8 cc0_scratch2 (k0_off4 t) (k0_off4_inb t h) = sS 0 t.val := by decide +kernel
theorem r2 : ∀ t (h : k0_cond2 t = 1#1), sem8 cc0_scratch3 (k0_off4 t) (k0_off4_inb t h) = rS 0 t.val := by decide +kernel
theorem s4 : ∀ t (h : k0_cond4 t = 1#1), sem8 cc0_scratch4 (k0_off10 t) (k0_off10_inb t h) = sS 1 t.val := by decide +kernel
theorem r4 : ∀ t (h : k0_cond4 t = 1#1), sem8 cc0_scratch5 (k0_off10 t) (k0_off10_inb t h) = rS 1 t.val := by decide +kernel
theorem s6 : ∀ t (h : k0_cond6 t = 1#1), sem7 cc0_scratch6 (k0_off15 t) (k0_off15_inb t h) = sS 2 t.val := by decide +kernel
theorem r6 : ∀ t (h : k0_cond6 t = 1#1), sem7 cc0_scratch7 (k0_off15 t) (k0_off15_inb t h) = rS 2 t.val := by decide +kernel
theorem s8 : ∀ t (h : k0_cond8 t = 1#1), sem7 cc0_scratch8 (k0_off20 t) (k0_off20_inb t h) = sS 3 t.val := by decide +kernel
theorem r8 : ∀ t (h : k0_cond8 t = 1#1), sem7 cc0_scratch9 (k0_off20 t) (k0_off20_inb t h) = rS 3 t.val := by decide +kernel

theorem o2 : ∀ t, k0_cond1 t = 1#1 → k0_off2 t = ![(sl (t.val - 1 + 1)).val, 0, 0] := by decide +kernel
theorem o5 : ∀ t, k0_cond2 t = 1#1 → k0_off5 t = ![(sl (t.val + 1)).val, 0, 0] := by decide +kernel
theorem o6 : ∀ t, k0_cond2 t = 1#1 → k0_off6 t = ![(sl t.val).val, 0, 0] := by decide +kernel
theorem o8 : ∀ t, k0_cond3 t = 1#1 → k0_off8 t = ![(sl (t.val - 1 + 1)).val, 0, 0] := by decide +kernel
theorem o11 : ∀ t, k0_cond4 t = 1#1 → k0_off11 t = ![(sl (t.val + 1)).val, 0, 0] := by decide +kernel
theorem o12 : ∀ t, k0_cond4 t = 1#1 → k0_off12 t = ![(sl t.val).val, 0, 0] := by decide +kernel
theorem o14 : ∀ t, k0_cond5 t = 1#1 → k0_off14 t = ![(sl (16 - t.val)).val, 0, 0] := by decide +kernel
theorem o16 : ∀ t, k0_cond6 t = 1#1 → k0_off16 t = ![(sl (15 - t.val)).val, 0, 0] := by decide +kernel
theorem o17 : ∀ t, k0_cond6 t = 1#1 → k0_off17 t = ![(sl (16 - t.val)).val, 0, 0] := by decide +kernel
theorem o19 : ∀ t, k0_cond7 t = 1#1 → k0_off19 t = ![(sl (16 - t.val)).val, 0, 0] := by decide +kernel
theorem o21 : ∀ t, k0_cond8 t = 1#1 → k0_off21 t = ![(sl (15 - t.val)).val, 0, 0] := by decide +kernel
theorem o22 : ∀ t, k0_cond8 t = 1#1 → k0_off22 t = ![(sl (16 - t.val)).val, 0, 0] := by decide +kernel
theorem o24 : ∀ t, k0_cond10 t = 1#1 → k0_off24 t = ![(sl t.val).val, 0, 0] := by decide +kernel
theorem o25 : ∀ t, k0_cond10 t = 1#1 → k0_off25 t = ![(sl t.val).val, 0, 0] := by decide +kernel
theorem o27 : ∀ t, k0_cond11 t = 1#1 → k0_off27 t = ![(sl (16 - t.val)).val, 0, 0] := by decide +kernel
theorem o28 : ∀ t, k0_cond11 t = 1#1 → k0_off28 t = ![(sl (16 - t.val)).val, 0, 0] := by decide +kernel
theorem o23 : ∀ (c : Dev nD) (r : Fin 4), k0_off23 c (BitVec.ofNat 32 r.val) = ![(hd c (sl 0) r).val, 0, 0] := by decide +kernel
theorem o26 : ∀ (c : Dev nD) t (r : Fin 4), k0_cond10 t = 1#1 → k0_off26 c t (BitVec.ofNat 32 r.val) = ![(hd c (sl t.val) r).val, 0, 0] := by decide +kernel
theorem o29 : ∀ (c : Dev nD) t (r : Fin 4), k0_cond11 t = 1#1 → k0_off29 c t (BitVec.ofNat 32 r.val) = ![(hd c (sl (16 - t.val)) r).val, 0, 0] := by
  decide +kernel

theorem lv_r : ∀ (h : Fin 9) (k : Fin 4), rq k h.val → lvS (.dma (rS k (h.val - 1))) = h.val + 1 := by decide +kernel
theorem lv_wait (h : Fin 9) (k : Fin 4) (hr : rq k h.val) (n : ℕ) (hn : min (2 + 4 * h.val) 32 ≤ n) :
    ∀ i, n ≤ i → i < 34 → lvS (.dma (rS k (h.val - 1))) < lvS (paySem i) := fun i h1 h2 => by
  rw [lv_r h k hr]; exact lv_ge h ⟨i, h2⟩ (Nat.le_trans hn h1)

theorem num_send : ∀ (h : Fin 9) (k : Fin 4), sq k h.val →
    min (2 + 4 * h.val + k.val) 32 = 2 + 4 * h.val + k.val ∧ min (2 + 4 * h.val + k.val + 1) 32 = min (2 + 4 * h.val + k.val) 32 + 1 := by decide +kernel
theorem num_skip : ∀ (h : Fin 9) (k : Fin 4), ¬ sq k h.val → min (2 + 4 * h.val + k.val + 1) 32 = min (2 + 4 * h.val + k.val) 32 := by decide +kernel
theorem org_right : ∀ (c : Dev nD) (h : Fin 9), sq 0 h.val → org c (sl h.val) = org (nxt c) (sl (h.val + 1)) := by decide +kernel
theorem org_left : ∀ (c : Dev nD) (h : Fin 9), sq 2 h.val → org c (sl (16 - h.val)) = org (prv c) (sl (15 - h.val)) := by decide +kernel

section Step
variable (A1 : Dev nD → S512x256.Idx → Elt F .bf16) (A2 : Dev nD → S256x512.Idx → Elt F .bf16)

theorem half6 (c : Dev nD) (s : Fin 16) (q : PosShare TreeShare) : P6 A1 c s q = iprop(P6 A1 c s q.left ∗ P6 A1 c s q.right) :=
  by
  unfold P6
  exact BI.equiv_iff.mp ⟨(pointsTo_share (PosShare.mem_left_op_right q)).1, (pointsTo_share (PosShare.mem_left_op_right q)).2⟩
theorem half7 (c : Dev nD) (s : Fin 16) (q : PosShare TreeShare) : P7 A2 c s q = iprop(P7 A2 c s q.left ∗ P7 A2 c s q.right) :=
  by
  unfold P7
  exact BI.equiv_iff.mp ⟨(pointsTo_share (PosShare.mem_left_op_right q)).1, (pointsTo_share (PosShare.mem_left_op_right q)).2⟩

/-- What step `h` starts from: the waits' and the transfers' tokens, and at the first step the device's own blocks. -/
def tPre (c : Dev nD) (h : ℕ) : sProp 𝕄 :=
  iprop((bigSep Finset.univ fun k : Fin 4 => onlyIf (rq k h) (rTodo c k (h - 1))) ∗ (bigSep Finset.univ fun k : Fin 4 => onlyIf (sq k h) (sTodo c k h))
    ∗ onlyIf (h = 0) (P6 A1 c (sl 0) fullShare) ∗ onlyIf (h = 0) (P7 A2 c (sl 0) fullShare))
/-- What the body keeps of the slots step `h` consumes. -/
def kept (c : Dev nD) (h : ℕ) : sProp 𝕄 :=
  iprop(P6 A1 c (sl h) (kq h) ∗ P7 A2 c (sl h) (kq h) ∗ onlyIf (two h) (P6 A1 c (sl (16 - h)) (kq' h)) ∗ onlyIf (two h) (P7 A2 c (sl (16 - h)) (kq' h)))
/-- What step `h` leaves. -/
def tPost (c : Dev nD) (h : ℕ) : sProp 𝕄 :=
  iprop((bigSep Finset.univ fun k : Fin 4 => onlyIf (rq k h) (rDone c k (h - 1))) ∗ (bigSep Finset.univ fun k : Fin 4 => onlyIf (sq k h) (sDone c k h))
    ∗ kept A1 A2 c h)

theorem onlyIf_sep (p : Prop) [Decidable p] (P Q : sProp 𝕄) : onlyIf p iprop(P ∗ Q) ⊢ iprop(onlyIf p P ∗ onlyIf p Q) := by
  by_cases h : p
  · rw [onlyIf_pos h, onlyIf_pos h, onlyIf_pos h]
  · rw [onlyIf_neg h, onlyIf_neg h, onlyIf_neg h]
    iintro H
    isplitl [H]; · iexact H
    iempintro

variable [FloatOps F] [Named F] (X : S256x512.Idx → Elt F .bf16) (K V : S64x256x64.Idx → Elt F .bf16)

local notation "wpc" c => wp frame (wpE (defs₀ (F := F)) 𝒱₀ ((c : Dev nD) : Thread nD τ) none) Set.univ

/-- The first three waits and transfers of a step. -/
theorem part10_run (κ : GSem nD τ sig → ℕ) (c : Dev nD) (t : Fin k0_t1_loop.trips) (v4 v7 : BitVec 32) {Q : _ → sProp 𝕄} :
    iprop(recs A1 A2 κ ∗ tPre A1 A2 c t.val ∗ owing c (min (2 + 4 * t.val) 32))
      ⊢ iprop((∀ r, (onlyIf (rq 3 t.val) (rTodo c 3 (t.val - 1)) ∗ onlyIf (sq 3 t.val) (sTodo c 3 t.val)
          ∗ (onlyIf (rq 0 t.val) (rDone c 0 (t.val - 1)) ∗ onlyIf (rq 1 t.val) (rDone c 1 (t.val - 1)) ∗ onlyIf (rq 2 t.val) (rDone c 2 (t.val - 1)))
          ∗ (onlyIf (sq 0 t.val) (sDone c 0 t.val) ∗ onlyIf (sq 1 t.val) (sDone c 1 t.val) ∗ onlyIf (sq 2 t.val) (sDone c 2 t.val))
          ∗ P6 A1 c (sl t.val) (kq t.val) ∗ onlyIf (two t.val) (P6 A1 c (sl (16 - t.val)) (kq' t.val))
          ∗ P7 A2 c (sl t.val) (kq t.val) ∗ onlyIf (t.val = 0) (P7 A2 c (sl 0) fullShare.right.left)
          ∗ owing c (min (2 + 4 * t.val + 3) 32)) -∗ Q r)
        -∗ (wpc c) (k0_part10 (F := F) m0 (Memref.isWhole_whole _) m1 (Memref.isWhole_whole _) m2 (Memref.isWhole_whole _) m3 (Memref.isWhole_whole _)
            m4 (Memref.isWhole_whole _) m5 (Memref.isWhole_whole _) q6 (Memref.isWhole_whole _) q7 (Memref.isWhole_whole _)
            cc0_scratch2 cc0_scratch3 cc0_scratch4 cc0_scratch5 cc0_scratch6 cc0_scratch7 cc0_scratch8 cc0_scratch9 cc0_scoped0 c v4 v7 0#32 1#32 t) Q) := by
  have ht : t.val < 9 := t.isLt
  rw [k0_part10_eq_skeleton]
  unfold k0_part10_skel tPre
  rw [four, four]
  iintro ⟨#HR, ⟨⟨W0, W1, W2, W3⟩, ⟨S0, S1, S2, S3⟩, O6, O7⟩, HO⟩ Hk
  iapply (recv_block A1 A2 κ c 0 (t.val - 1) (min (2 + 4 * t.val) 32) (c1_iff t) (fun h => h.2) (w1 t) (fun h => lv_wait t 0 h _ (Nat.le_refl _))
    (fun h => by rw [slot6_of _ _ _ (o2 t h)]; exact credit6 _)) $$ [W0 HO]
  · isplitr; · iexact HR
    isplitl [W0]; · iexact W0
    iexact HO
  iintro ⟨HD0, HO⟩
  ihave HD0 := (onlyIf_sep (F := F) _ _ _) $$ HD0
  icases HD0 with ⟨HP0, HD0⟩
  ihave HS := (share_right (P6 A1 c) (half6 A1 c) t.val ht) $$ [HP0 O6]
  · isplitl [HP0]; · iexact HP0
    iexact O6
  icases HS with ⟨HL, HX6, HK6⟩
  iapply (send6_block A1 A2 κ c 0 t.val (min (2 + 4 * t.val) 32) (min (2 + 4 * t.val + 1) 32) (c2_iff t) (fun h => h) (num_send ⟨t.val, ht⟩ 0)
    (num_skip ⟨t.val, ht⟩ 0) (sl t.val) (sl (t.val + 1)) fullShare.left rfl rfl rfl (org_right c ⟨t.val, ht⟩)
    (fun h => dev3_eq c _) (s2 t) (r2 t) (fun h => slot6_of _ _ _ (o6 t h)) (fun h => slot6_of _ _ _ (o5 t h))) $$ [HL S0 HO]
  · isplitr; · iexact HR
    isplitl [HL]; · iexact HL
    isplitl [S0]; · iexact S0
    iexact HO
  iintro ⟨HS0, HO⟩
  iapply (recv_block A1 A2 κ c 1 (t.val - 1) (min (2 + 4 * t.val + 1) 32) (c3_iff t) (fun h => h.2) (w3 t) (fun h => lv_wait t 1 h _ (by omega))
    (fun h => by rw [slot7_of _ _ _ (o8 t h)]; exact credit7 _)) $$ [W1 HO]
  · isplitr; · iexact HR
    isplitl [W1]; · iexact W1
    iexact HO
  iintro ⟨HD1, HO⟩
  ihave HD1 := (onlyIf_sep (F := F) _ _ _) $$ HD1
  icases HD1 with ⟨HP1, HD1⟩
  ihave HS := (share_right (P7 A2 c) (half7 A2 c) t.val ht) $$ [HP1 O7]
  · isplitl [HP1]; · iexact HP1
    iexact O7
  icases HS with ⟨HL, HX7, HK7⟩
  iapply (send7_block A1 A2 κ c 1 t.val (min (2 + 4 * t.val + 1) 32) (min (2 + 4 * t.val + 2) 32) (c4_iff t) (fun h => h) (num_send ⟨t.val, ht⟩ 1)
    (num_skip ⟨t.val, ht⟩ 1) (sl t.val) (sl (t.val + 1)) fullShare.left rfl rfl rfl (org_right c ⟨t.val, ht⟩)
    (fun h => dev4_eq c _) (s4 t) (r4 t) (fun h => slot7_of _ _ _ (o12 t h)) (fun h => slot7_of _ _ _ (o11 t h))) $$ [HL S1 HO]
  · isplitr; · iexact HR
    isplitl [HL]; · iexact HL
    isplitl [S1]; · iexact S1
    iexact HO
  iintro ⟨HS1, HO⟩
  iapply (recv_block A1 A2 κ c 2 (t.val - 1) (min (2 + 4 * t.val + 2) 32) (c5_iff t) (fun h => h.2) (w5 t) (fun h => lv_wait t 2 h _ (by omega))
    (fun h => by rw [slot6_of _ _ _ (o14 t h)]; exact credit6 _)) $$ [W2 HO]
  · isplitr; · iexact HR
    isplitl [W2]; · iexact W2
    iexact HO
  iintro ⟨HD2, HO⟩
  ihave HD2 := (onlyIf_sep (F := F) _ _ _) $$ HD2
  icases HD2 with ⟨HP2, HD2⟩
  ihave HS := (share_left (P6 A1 c) (half6 A1 c) t.val ht) $$ [HP2 HX6]
  · isplitl [HP2]; · iexact HP2
    iexact HX6
  icases HS with ⟨HL, HK6'⟩
  iapply (send6_block A1 A2 κ c 2 t.val (min (2 + 4 * t.val + 2) 32) (min (2 + 4 * t.val + 3) 32) (c6_iff t) (fun h => h) (num_send ⟨t.val, ht⟩ 2)
    (num_skip ⟨t.val, ht⟩ 2) (sl (16 - t.val)) (sl (15 - t.val)) (cq t.val) rfl rfl rfl (org_left c ⟨t.val, ht⟩)
    (fun h => dev5_eq c _) (s6 t) (r6 t) (fun h => slot6_of _ _ _ (o17 t h)) (fun h => slot6_of _ _ _ (o16 t h))) $$ [HL S2 HO]
  · isplitr; · iexact HR
    isplitl [HL]; · iexact HL
    isplitl [S2]; · iexact S2
    iexact HO
  iintro ⟨HS2, HO⟩
  rw [Prog.pure_eq_ret, wp_ret]
  imodintro
  iapply Hk
  iframe

end Step

end Cert.KernelIdeal.Run
-- ==== Proof.LoopKI.lean ====
/-
  A whole step of the ring's loop.
-/
module

public import proofs.«01_k».proof.Proof.TripKI

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "wpc" c => wp frame (wpE (defs₀ (F := F)) 𝒱₀ ((c : Dev nD) : Thread nD τ) none) Set.univ

variable (A1 : Dev nD → S512x256.Idx → Elt F .bf16) (A2 : Dev nD → S256x512.Idx → Elt F .bf16)
  (X : S256x512.Idx → Elt F .bf16) (K V : S64x256x64.Idx → Elt F .bf16)

/-- What a step reads beside the ring buffers and what it accumulates into. -/
def data (c : Dev nD) (h : ℕ) : sProp 𝕄 :=
  iprop(((c : Thread nD τ).loc cc0_stg3_0 ↦{fullShare} K) ∗ ((c : Thread nD τ).loc cc0_stg4_0 ↦{fullShare} V)
    ∗ ((c : Thread nD τ).loc cc0_stg5_0 ↦{fullShare} (accAt A1 A2 X K V c h : Vec F S256x512 .f32)))

/-- What is held only when `q` holds is held, once `q` is known. -/
theorem onlyIf_out {q : Prop} [Decidable q] {P : sProp (𝕄)} (h : q) : onlyIf q P ⊢ P := by
  rw [onlyIf_pos h]

/-- What is held may be counted as held only when `q` holds. -/
theorem onlyIf_in {q : Prop} [Decidable q] {P : sProp (𝕄)} (h : q) : P ⊢ onlyIf q P := by
  rw [onlyIf_pos h]

/-- One step of the ring's loop. -/
theorem trip (κ : GSem nD τ sig → ℕ) (c : Dev nD) (t : Fin k0_t1_loop.trips) (v2 v4 v7 : BitVec 32) :
    iprop(recs A1 A2 κ ∗ tPre A1 A2 c t.val ∗ owing c (min (2 + 4 * t.val) 32) ∗ data A1 A2 X K V c t.val)
      ⊢ (wpc c) (k0_t1_body (F := F) m0 (Memref.isWhole_whole _) m1 (Memref.isWhole_whole _) m2 (Memref.isWhole_whole _) m3 (Memref.isWhole_whole _)
            m4 (Memref.isWhole_whole _) m5 (Memref.isWhole_whole _) q6 (Memref.isWhole_whole _) q7 (Memref.isWhole_whole _)
            cc0_scratch2 cc0_scratch3 cc0_scratch4 cc0_scratch5 cc0_scratch6 cc0_scratch7 cc0_scratch8 cc0_scratch9 cc0_scoped0
            c v2 v4 v7 k0_pay36 k0_pay37 k0_pay38 X t ())
          (fun _ => iprop(tPost A1 A2 c t.val ∗ owing c (min (2 + 4 * (t.val + 1)) 32) ∗ data A1 A2 X K V c (t.val + 1))) := by
  have ht : t.val < 9 := t.isLt
  unfold k0_t1_body data
  rw [wp_bind]
  iintro ⟨#HR, HT, HO, HK, HV, Hout⟩
  iapply (part10_run A1 A2 κ c t v4 v7) $$ [HT HO]
  · isplitr; · iexact HR
    isplitl [HT]; · iexact HT
    iexact HO
  iintro %r ⟨W3, S3, ⟨D0, D1, D2⟩, ⟨E0, E1, E2⟩, K6, K6', K7, HX7, HO⟩
  obtain ⟨arg16, v86, v91, v112⟩ := r
  iapply (recv_block A1 A2 κ c 3 (t.val - 1) (min (2 + 4 * t.val + 3) 32) (c7_iff t) (fun h => h.2) (w7 t) (fun h => lv_wait t 3 h _ (by omega))
    (fun h => by rw [slot7_of _ _ _ (o19 t h)]; exact credit7 _)) $$ [W3 HO]
  · isplitr; · iexact HR
    isplitl [W3]; · iexact W3
    iexact HO
  iintro ⟨D3, HO⟩
  ihave D3 := (onlyIf_sep (F := F) _ _ _) $$ D3
  icases D3 with ⟨HP3, D3⟩
  ihave HS := (share_left (P7 A2 c) (half7 A2 c) t.val ht) $$ [HP3 HX7]
  · isplitl [HP3]; · iexact HP3
    iexact HX7
  icases HS with ⟨HL, K7'⟩
  iapply (send7_block A1 A2 κ c 3 t.val (min (2 + 4 * t.val + 3) 32) (min (2 + 4 * (t.val + 1)) 32) (c8_iff t) (fun h => h) (num_send ⟨t.val, ht⟩ 3)
    (num_skip ⟨t.val, ht⟩ 3) (sl (16 - t.val)) (sl (15 - t.val)) (cq t.val) rfl rfl rfl (org_left c ⟨t.val, ht⟩)
    (fun h => dev6_eq c _) (s8 t) (r8 t) (fun h => slot7_of _ _ _ (o22 t h)) (fun h => slot7_of _ _ _ (o21 t h))) $$ [HL S3 HO]
  · isplitr; · iexact HR
    isplitl [HL]; · iexact HL
    isplitl [S3]; · iexact S3
    iexact HO
  iintro ⟨E3, HO⟩
  unfold tPost kept
  rw [four, four]
  by_cases h0 : t.val = 0
  · have g9 := (c9_iff t).mpr h0
    have g10 : ¬ k0_cond10 t = 1#1 := fun h => by have := (c10_iff t).mp h; omega
    have g11 : ¬ k0_cond11 t = 1#1 := fun h => by have := ((c11_iff t).mp h).1; omega
    have hn : ¬ two t.val := fun h => by have := h.1; omega
    simp only [g9, g10, g11, ↓reduceDIte]
    simp only [k0_part1_eq_skeleton, k0_part2_eq_skeleton, k0_part3_eq_skeleton]
    unfold k0_part1_skel k0_part2_skel k0_part3_skel
    simp only [Prog.lift, Prog.bind_op, Prog.bind_ret, Prog.pure_eq_ret]
    iapply (slot_block A1 A2 X K V c (sl t.val) (kq t.val) (kq t.val) (accAt A1 A2 X K V c t.val) (by rw [h0]; rfl) (by rw [h0]; rfl) (by rw [h0]; exact o23 c 0) (by rw [h0]; exact o23 c 1) (by rw [h0]; exact o23 c 2) (by rw [h0]; exact o23 c 3)
      (fun _ _ _ _ _ _ _ _ _ _ _ => upd_first _ _ _ _ _ _ _ _ _ _ _ _ _)) $$ [K6 K7 HK HV Hout]
    · isplitl [K6]; · iexact K6
      isplitl [K7]; · iexact K7
      isplitl [HK]; · iexact HK
      isplitl [HV]; · iexact HV
      iexact Hout
    iintro ⟨K6, K7, HK, HV, Hout⟩
    rw [wp_ret]
    imodintro
    isplitr [HO HK HV Hout]
    · isplitl [D0 D1 D2 D3]
      · isplitl [D0]; · iexact D0
        isplitl [D1]; · iexact D1
        isplitl [D2]; · iexact D2
        iexact D3
      isplitl [E0 E1 E2 E3]
      · isplitl [E0]; · iexact E0
        isplitl [E1]; · iexact E1
        isplitl [E2]; · iexact E2
        iexact E3
      isplitl [K6]; · iexact K6
      isplitl [K7]; · iexact K7
      isplitl [K6']; · iexact K6'
      iexact K7'
    isplitl [HO]; · iexact HO
    isplitl [HK]; · iexact HK
    isplitl [HV]; · iexact HV
    rw [show accAt A1 A2 X K V c (t.val + 1) = stepOut A1 A2 X K V c (sl t.val) (accAt A1 A2 X K V c t.val) from if_neg hn]
    iexact Hout
  · have g9 : ¬ k0_cond9 t = 1#1 := fun h => h0 ((c9_iff t).mp h)
    have g10 := (c10_iff t).mpr (Nat.one_le_iff_ne_zero.mpr h0)
    simp only [g9, g10, ↓reduceDIte]
    simp only [k0_part4_eq_skeleton, k0_part5_eq_skeleton, k0_part6_eq_skeleton]
    unfold k0_part4_skel k0_part5_skel k0_part6_skel
    simp only [Prog.lift, Prog.bind_op, Prog.bind_ret, Prog.pure_eq_ret]
    iapply (slot_block A1 A2 X K V c (sl t.val) (kq t.val) (kq t.val) (accAt A1 A2 X K V c t.val) (o24 t g10) (o25 t g10) (o26 c t 0 g10) (o26 c t 1 g10) (o26 c t 2 g10) (o26 c t 3 g10)
      (fun _ _ _ _ _ _ _ _ _ _ _ => upd_right _ _ _ _ _ _ _ _ _ _ _ _ _)) $$ [K6 K7 HK HV Hout]
    · isplitl [K6]; · iexact K6
      isplitl [K7]; · iexact K7
      isplitl [HK]; · iexact HK
      isplitl [HV]; · iexact HV
      iexact Hout
    iintro ⟨K6, K7, HK, HV, Hout⟩
    by_cases hn : two t.val
    · have g11 := (c11_iff t).mpr hn
      simp only [g11, ↓reduceDIte]
      simp only [k0_part7_eq_skeleton, k0_part8_eq_skeleton, k0_part9_eq_skeleton]
      unfold k0_part7_skel k0_part8_skel k0_part9_skel
      simp only [Prog.lift, Prog.bind_op, Prog.bind_ret, Prog.pure_eq_ret]
      ihave K6' := (onlyIf_out hn) $$ K6'
      ihave K7' := (onlyIf_out hn) $$ K7'
      iapply (slot_block A1 A2 X K V c (sl (16 - t.val)) (kq' t.val) (kq' t.val) (stepOut A1 A2 X K V c (sl t.val) (accAt A1 A2 X K V c t.val)) (o27 t g11) (o28 t g11) (o29 c t 0 g11) (o29 c t 1 g11) (o29 c t 2 g11) (o29 c t 3 g11)
        (fun _ _ _ _ _ _ _ _ _ _ _ => upd_left _ _ _ _ _ _ _ _ _ _ _ _ _)) $$ [K6' K7' HK HV Hout]
      · isplitl [K6']; · iexact K6'
        isplitl [K7']; · iexact K7'
        isplitl [HK]; · iexact HK
        isplitl [HV]; · iexact HV
        iexact Hout
      iintro ⟨K6', K7', HK, HV, Hout⟩
      rw [wp_ret]
      imodintro
      isplitr [HO HK HV Hout]
      · isplitl [D0 D1 D2 D3]
        · isplitl [D0]; · iexact D0
          isplitl [D1]; · iexact D1
          isplitl [D2]; · iexact D2
          iexact D3
        isplitl [E0 E1 E2 E3]
        · isplitl [E0]; · iexact E0
          isplitl [E1]; · iexact E1
          isplitl [E2]; · iexact E2
          iexact E3
        isplitl [K6]; · iexact K6
        isplitl [K7]; · iexact K7
        isplitl [K6']; · iapply (onlyIf_in hn); iexact K6'
        iapply (onlyIf_in hn); iexact K7'
      isplitl [HO]; · iexact HO
      isplitl [HK]; · iexact HK
      isplitl [HV]; · iexact HV
      rw [show accAt A1 A2 X K V c (t.val + 1) = stepOut A1 A2 X K V c (sl (16 - t.val)) (stepOut A1 A2 X K V c (sl t.val) (accAt A1 A2 X K V c t.val)) from if_pos hn]
      iexact Hout
    · have g11 : ¬ k0_cond11 t = 1#1 := fun h => hn ((c11_iff t).mp h)
      simp only [g11, ↓reduceDIte]
      rw [wp_ret]
      imodintro
      isplitr [HO HK HV Hout]
      · isplitl [D0 D1 D2 D3]
        · isplitl [D0]; · iexact D0
          isplitl [D1]; · iexact D1
          isplitl [D2]; · iexact D2
          iexact D3
        isplitl [E0 E1 E2 E3]
        · isplitl [E0]; · iexact E0
          isplitl [E1]; · iexact E1
          isplitl [E2]; · iexact E2
          iexact E3
        isplitl [K6]; · iexact K6
        isplitl [K7]; · iexact K7
        isplitl [K6']; · iexact K6'
        iexact K7'
      isplitl [HO]; · iexact HO
      isplitl [HK]; · iexact HK
      isplitl [HV]; · iexact HV
      rw [show accAt A1 A2 X K V c (t.val + 1) = stepOut A1 A2 X K V c (sl t.val) (accAt A1 A2 X K V c t.val) from if_neg hn]
      iexact Hout

end Cert.KernelIdeal.Run
-- ==== Proof.StepsKI.lean ====
/-
  The ring's loop whole, and the loop that collects the transfers' source slots.
-/
module

public import proofs.«01_k».proof.Proof.LoopKI

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "wpc" c => wp frame (wpE (defs₀ (F := F)) 𝒱₀ ((c : Dev nD) : Thread nD τ) none) Set.univ

variable (A1 : Dev nD → S512x256.Idx → Elt F .bf16) (A2 : Dev nD → S256x512.Idx → Elt F .bf16)
  (X : S256x512.Idx → Elt F .bf16) (K V : S64x256x64.Idx → Elt F .bf16)

/-! ## A resource that changes piece by piece -/

/-- Before step `n` of a loop: the steps before `n` have left `B`, the others start from `A`. -/
def mixed {T : ℕ} (A B : ℕ → sProp (𝕄)) (n : ℕ) : sProp (𝕄) :=
  bigSep (Finset.univ : Finset (Fin T)) fun i => if i.val < n then B i.val else A i.val

theorem mixed_zero {T : ℕ} (A B : ℕ → sProp (𝕄)) :
    mixed (T := T) A B 0 = bigSep (Finset.univ : Finset (Fin T)) fun i => A i.val :=
  bigSep_congr fun i _ => if_neg (Nat.not_lt_zero _)
theorem mixed_end {T : ℕ} (A B : ℕ → sProp (𝕄)) :
    mixed (T := T) A B T = bigSep (Finset.univ : Finset (Fin T)) fun i => B i.val :=
  bigSep_congr fun i _ => if_pos i.isLt
theorem mixed_at {T : ℕ} (A B : ℕ → sProp (𝕄)) (t : Fin T) :
    mixed (T := T) A B t.val = iprop(A t.val ∗ bigSep (Finset.univ.erase t) fun i => if i.val < t.val then B i.val else A i.val) := by
  unfold mixed
  rw [bigSep_erase (Finset.mem_univ t), if_neg (Nat.lt_irrefl _)]
  rfl
theorem mixed_next {T : ℕ} (A B : ℕ → sProp (𝕄)) (t : Fin T) :
    mixed (T := T) A B (t.val + 1) = iprop(B t.val ∗ bigSep (Finset.univ.erase t) fun i => if i.val < t.val then B i.val else A i.val) := by
  unfold mixed
  rw [bigSep_erase (Finset.mem_univ t), if_pos (Nat.lt_succ_self _)]
  refine congrArg (fun P : sProp (𝕄) => iprop(B t.val ∗ P)) (bigSep_congr fun i hi => ?_)
  have hne : i.val ≠ t.val := fun h => (Finset.mem_erase.mp hi).1 (Fin.ext h)
  by_cases h : i.val < t.val
  · rw [if_pos h, if_pos (by omega)]
  · rw [if_neg h, if_neg (by omega)]

/-- Where a condition fails, what is held only under it is nothing. -/
theorem onlyIf_none {q : Prop} [Decidable q] {P P' : sProp (𝕄)} (h : ¬ q) : onlyIf q P ⊢ onlyIf q P' := by
  rw [onlyIf_neg h, onlyIf_neg h]

/-! ## The ring's loop -/

/-- The ring's loop: nine steps. -/
theorem loop1 (κ : GSem nD τ sig → ℕ) (c : Dev nD) (v2 v4 v7 : BitVec 32) {α : Type} {Q : α → sProp 𝕄} {kk : Unit → Prog (TpuEff nD τ sig (Elt F) Λ₀ .tc) α} :
    iprop(recs A1 A2 κ ∗ (bigSep (Finset.univ : Finset (Fin 9)) fun h => tPre A1 A2 c h.val) ∗ owing c 2 ∗ data A1 A2 X K V c 0)
      ⊢ iprop((((bigSep (Finset.univ : Finset (Fin 9)) fun h => tPost A1 A2 c h.val) ∗ owing c 32 ∗ data A1 A2 X K V c 9) -∗ (wpc c) (kk ()) Q)
        -∗ (wpc c) (Scf.Loop.for k0_t1_loop k0_t1_ok ⟨⟩ (k0_t1_body (F := F) m0 (Memref.isWhole_whole _) m1 (Memref.isWhole_whole _) m2 (Memref.isWhole_whole _) m3 (Memref.isWhole_whole _)
            m4 (Memref.isWhole_whole _) m5 (Memref.isWhole_whole _) q6 (Memref.isWhole_whole _) q7 (Memref.isWhole_whole _)
            cc0_scratch2 cc0_scratch3 cc0_scratch4 cc0_scratch5 cc0_scratch6 cc0_scratch7 cc0_scratch8 cc0_scratch9 cc0_scoped0
            c v2 v4 v7 k0_pay36 k0_pay37 k0_pay38 X) >>= kk) Q) := by
  iintro ⟨#HR, HT, HO, HD⟩ Hk
  iapply (Scf.wp_for_bind frame (wpE (defs₀ (F := F)) 𝒱₀ ((c : Dev nD) : Thread nD τ) none) Set.univ k0_t1_loop.lb k0_t1_loop.ub k0_t1_loop.st k0_t1_ok ⟨⟩ _
    (fun n _ => iprop(recs A1 A2 κ ∗ mixed (T := 9) (tPre A1 A2 c) (tPost A1 A2 c) n ∗ owing c (min (2 + 4 * n) 32) ∗ data A1 A2 X K V c n))
    (fun t _ => by
      have e1 := mixed_at (T := 9) (tPre A1 A2 c) (tPost A1 A2 c) t
      have e2 := mixed_next (T := 9) (tPre A1 A2 c) (tPost A1 A2 c) t
      rw [e1, e2]
      iintro ⟨#HR, ⟨HT, Hrest⟩, HO, HD⟩
      ihave HW := (trip A1 A2 X K V κ c t v2 v4 v7) $$ [HT HO HD]
      · isplitr; · iexact HR
        isplitl [HT]; · iexact HT
        isplitl [HO]; · iexact HO
        iexact HD
      iapply wp_wand $$ [HW]
      · iexact HW
      iintro %u ⟨HT, HO, HD⟩
      isplitr; · iexact HR
      isplitl [HT Hrest]
      · isplitl [HT]; · iexact HT
        iexact Hrest
      isplitl [HO]; · iexact HO
      iexact HD)) $$ [HT HO HD]
  · rw [mixed_zero]
    isplitr; · iexact HR
    isplitl [HT]; · iexact HT
    isplitl [HO]; · iexact HO
    iexact HD
  iintro %u ⟨-, HT, HO, HD⟩
  have e : mixed (T := 9) (tPre A1 A2 c) (tPost A1 A2 c) (Scf.trips k0_t1_loop.lb k0_t1_loop.ub k0_t1_loop.st) = _ := mixed_end (T := 9) (tPre A1 A2 c) (tPost A1 A2 c)
  iapply Hk
  isplitl [HT]; · iapply (Entails.of_eq e) $$ HT
  isplitl [HO]; · iexact HO
  iexact HD

/-! ## The loop of the send cells -/

/-- What the wait on a transfer's send cell starts from, and what it leaves. -/
def gTodo (c : Dev nD) (k : Fin 4) (j : ℕ) : sProp 𝕄 := iprop(sDone c k j ∗ atPos ER (sCell c k j) 0 ∅ 0)
def gDone (c : Dev nD) (k : Fin 4) (j : ℕ) : sProp 𝕄 := iprop(sPay A1 A2 c j k ∗ atPos ER (sCell c k j) 1 ∅ 0)
def gPre (c : Dev nD) (j : ℕ) : sProp 𝕄 := bigSep Finset.univ fun k : Fin 4 => onlyIf (sq k j) (gTodo c k j)
def gPost (c : Dev nD) (j : ℕ) : sProp 𝕄 := bigSep Finset.univ fun k : Fin 4 => onlyIf (sq k j) (gDone A1 A2 c k j)

theorem c12_iff : ∀ t, k0_cond12 t = 1#1 ↔ t.val < 7 := by decide +kernel
theorem g0 : ∀ t, sem8 cc0_scratch2 (k0_off30 t) (k0_off30_inb t) = sS 0 t.val := by decide +kernel
theorem g1 : ∀ t, sem8 cc0_scratch4 (k0_off30 t) (k0_off30_inb t) = sS 1 t.val := by decide +kernel
theorem g2 : ∀ t (h : k0_cond12 t = 1#1), sem7 cc0_scratch6 (k0_off33 t) (k0_off33_inb t h) = sS 2 t.val := by decide +kernel
theorem g3 : ∀ t (h : k0_cond12 t = 1#1), sem7 cc0_scratch8 (k0_off33 t) (k0_off33_inb t h) = sS 3 t.val := by decide +kernel
theorem o31 : ∀ t, k0_off31 t = ![(sl t.val).val, 0, 0] := by decide +kernel
theorem o32 : ∀ t, k0_off32 t = ![(sl t.val).val, 0, 0] := by decide +kernel
theorem o34 : ∀ t, k0_cond12 t = 1#1 → k0_off34 t = ![(sl t.val).val, 0, 0] := by decide +kernel
theorem o35 : ∀ t, k0_cond12 t = 1#1 → k0_off35 t = ![(sl t.val).val, 0, 0] := by decide +kernel

theorem lv_s : ∀ (h : Fin 8) (k : Fin 4), sq k h.val → lvS (.dma (sS k h.val)) = 0 := by decide +kernel
theorem lv_end : ∀ i : Fin 34, 32 ≤ i.val → lvS (paySem i.val) = 100 := by decide +kernel

/-- A wait on a send cell, everything but the exit signals paid: the share lent to the transfer comes back. -/
theorem back_one (κ : GSem nD τ sig → ℕ) (c : Dev nD) (k : Fin 4) (j : Fin 8) (hj : sq k j.val) {sem : DmaSem sig} (hsem : sem = sS k j.val)
    {sp sp' : Space} {s s' : Shape} {e e' : EltTy} {src : Memref sig .tc sp' s' e'} {dst : Memref sig .tc sp s e}
    (hdst : dst.view.dmaCredit = N) {h1 : src.view.WordExact} {h2 : dst.view.WordExact} {α : Type} {Q : α → sProp 𝕄}
    {kk : PUnit → Prog (TpuEff nD τ sig (Elt F) Λ₀ .tc) α} :
    iprop(recs A1 A2 κ ∗ gTodo c k j.val ∗ owing c 32)
      ⊢ iprop(((gDone A1 A2 c k j.val ∗ owing c 32) -∗ (wpc c) (kk ⟨⟩) Q) -∗ (wpc c) (.op (.waitDma2 sem src dst h1 h2) kk) Q) := by
  subst hsem
  have := wait_one (k := kk) (Q := Q) (h1 := h1) (h2 := h2) A1 A2 κ c (sS k j.val) 32 (s_mem c k j.val hj) (expect_s A1 A2 c k j.val hj) _ (rest_s A1 A2 c k j.val hj)
    (fun i h1 h2 => by rw [lv_s j k hj, lv_end ⟨i, h2⟩ h1]; decide) hdst
  unfold gTodo gDone sDone
  iintro ⟨HR, ⟨Hc, Hat⟩, HO⟩ Hk
  iapply this $$ [HR Hc Hat HO]
  · isplitl [HR]; · iexact HR
    isplitl [Hc]; · iexact Hc
    isplitl [Hat]; · iexact Hat
    iexact HO
  iintro ⟨HP, Hat, HO⟩
  iapply Hk
  isplitr [HO]
  · isplitl [HP]; · iexact HP
    iexact Hat
  iexact HO

/-- One step of the loop of the send cells. -/
theorem back (κ : GSem nD τ sig → ℕ) (c : Dev nD) (t : Fin k0_t2_loop.trips) :
    iprop(recs A1 A2 κ ∗ gPre c t.val ∗ owing c 32)
      ⊢ (wpc c) (k0_t2_body (F := F) m0 (Memref.isWhole_whole _) m1 (Memref.isWhole_whole _) m2 (Memref.isWhole_whole _) m3 (Memref.isWhole_whole _)
            m4 (Memref.isWhole_whole _) m5 (Memref.isWhole_whole _) q6 (Memref.isWhole_whole _) q7 (Memref.isWhole_whole _)
            cc0_scratch2 cc0_scratch3 cc0_scratch4 cc0_scratch5 cc0_scratch6 cc0_scratch7 cc0_scratch8 cc0_scratch9 cc0_scoped0 t ())
          (fun _ => iprop(gPost A1 A2 c t.val ∗ owing c 32)) := by
  have ht : t.val < 8 := t.isLt
  have e0 : sq 0 t.val := ht
  have e1 : sq 1 t.val := ht
  unfold k0_t2_body gPre gPost
  simp only [Prog.lift, Prog.bind_op, Prog.bind_ret, Prog.pure_eq_ret]
  rw [four, four, onlyIf_pos e0, onlyIf_pos e1, onlyIf_pos e0, onlyIf_pos e1]
  iintro ⟨#HR, ⟨G0, G1, G2, G3⟩, HO⟩
  iapply (back_one A1 A2 κ c 0 ⟨t.val, ht⟩ e0 (g0 t) (by rw [slot6_of _ _ _ (o31 t)]; exact credit6 _)) $$ [G0 HO]
  · isplitr; · iexact HR
    isplitl [G0]; · iexact G0
    iexact HO
  iintro ⟨G0, HO⟩
  iapply (back_one A1 A2 κ c 1 ⟨t.val, ht⟩ e1 (g1 t) (by rw [slot7_of _ _ _ (o32 t)]; exact credit7 _)) $$ [G1 HO]
  · isplitr; · iexact HR
    isplitl [G1]; · iexact G1
    iexact HO
  iintro ⟨G1, HO⟩
  by_cases h7 : t.val < 7
  · have e2 : sq 2 t.val := h7
    have e3 : sq 3 t.val := h7
    have g12 := (c12_iff t).mpr h7
    simp only [g12, ↓reduceDIte, Prog.bind_op, Prog.bind_ret]
    ihave G2 := (onlyIf_out e2) $$ G2
    ihave G3 := (onlyIf_out e3) $$ G3
    iapply (back_one A1 A2 κ c 2 ⟨t.val, ht⟩ e2 (g2 t g12) (by rw [slot6_of _ _ _ (o34 t g12)]; exact credit6 _)) $$ [G2 HO]
    · isplitr; · iexact HR
      isplitl [G2]; · iexact G2
      iexact HO
    iintro ⟨G2, HO⟩
    iapply (back_one A1 A2 κ c 3 ⟨t.val, ht⟩ e3 (g3 t g12) (by rw [slot7_of _ _ _ (o35 t g12)]; exact credit7 _)) $$ [G3 HO]
    · isplitr; · iexact HR
      isplitl [G3]; · iexact G3
      iexact HO
    iintro ⟨G3, HO⟩
    rw [wp_ret]
    imodintro
    isplitr [HO]
    · isplitl [G0]; · iexact G0
      isplitl [G1]; · iexact G1
      isplitl [G2]; · iapply (onlyIf_in e2); iexact G2
      iapply (onlyIf_in e3); iexact G3
    iexact HO
  · have e2 : ¬ sq 2 t.val := h7
    have e3 : ¬ sq 3 t.val := h7
    have g12 : ¬ k0_cond12 t = 1#1 := fun h => h7 ((c12_iff t).mp h)
    simp only [g12, ↓reduceDIte, Prog.bind_op, Prog.bind_ret]
    rw [wp_ret]
    imodintro
    isplitr [HO]
    · isplitl [G0]; · iexact G0
      isplitl [G1]; · iexact G1
      isplitl [G2]; · iapply (onlyIf_none e2); iexact G2
      iapply (onlyIf_none e3); iexact G3
    iexact HO

/-- The loop of the send cells: eight steps. -/
theorem loop2 (κ : GSem nD τ sig → ℕ) (c : Dev nD) {α : Type} {Q : α → sProp 𝕄} {kk : Unit → Prog (TpuEff nD τ sig (Elt F) Λ₀ .tc) α} :
    iprop(recs A1 A2 κ ∗ (bigSep (Finset.univ : Finset (Fin 8)) fun j => gPre c j.val) ∗ owing c 32)
      ⊢ iprop((((bigSep (Finset.univ : Finset (Fin 8)) fun j => gPost A1 A2 c j.val) ∗ owing c 32) -∗ (wpc c) (kk ()) Q)
        -∗ (wpc c) (Scf.Loop.for k0_t2_loop k0_t2_ok ⟨⟩ (k0_t2_body (F := F) m0 (Memref.isWhole_whole _) m1 (Memref.isWhole_whole _) m2 (Memref.isWhole_whole _) m3 (Memref.isWhole_whole _)
            m4 (Memref.isWhole_whole _) m5 (Memref.isWhole_whole _) q6 (Memref.isWhole_whole _) q7 (Memref.isWhole_whole _)
            cc0_scratch2 cc0_scratch3 cc0_scratch4 cc0_scratch5 cc0_scratch6 cc0_scratch7 cc0_scratch8 cc0_scratch9 cc0_scoped0) >>= kk) Q) := by
  iintro ⟨#HR, HT, HO⟩ Hk
  iapply (Scf.wp_for_bind frame (wpE (defs₀ (F := F)) 𝒱₀ ((c : Dev nD) : Thread nD τ) none) Set.univ k0_t2_loop.lb k0_t2_loop.ub k0_t2_loop.st k0_t2_ok ⟨⟩ _
    (fun n _ => iprop(recs A1 A2 κ ∗ mixed (T := 8) (gPre c) (gPost A1 A2 c) n ∗ owing c 32))
    (fun t _ => by
      have e1 := mixed_at (T := 8) (gPre c) (gPost A1 A2 c) t
      have e2 := mixed_next (T := 8) (gPre c) (gPost A1 A2 c) t
      rw [e1, e2]
      iintro ⟨#HR, ⟨HT, Hrest⟩, HO⟩
      ihave HW := (back A1 A2 κ c t) $$ [HT HO]
      · isplitr; · iexact HR
        isplitl [HT]; · iexact HT
        iexact HO
      iapply wp_wand $$ [HW]
      · iexact HW
      iintro %u ⟨HT, HO⟩
      isplitr; · iexact HR
      isplitl [HT Hrest]
      · isplitl [HT]; · iexact HT
        iexact Hrest
      iexact HO)) $$ [HT HO]
  · rw [mixed_zero]
    isplitr; · iexact HR
    isplitl [HT]; · iexact HT
    iexact HO
  iintro %u ⟨-, HT, HO⟩
  have e : mixed (T := 8) (gPre c) (gPost A1 A2 c) (Scf.trips k0_t2_loop.lb k0_t2_loop.ub k0_t2_loop.st) = _ := mixed_end (T := 8) (gPre c) (gPost A1 A2 c)
  iapply Hk
  isplitl [HT]; · iapply (Entails.of_eq e) $$ HT
  iexact HO

end Cert.KernelIdeal.Run
-- ==== Proof.GridKI.lean ====
/-
  Resources that a device has one of for each of its transfers; the slots taken apart and put together.
-/
module

public import proofs.«01_k».proof.Proof.StepsKI
public import Idealize.ShloMosaic.Lib.Ring

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "wpc" c => wp frame (wpE (defs₀ (F := F)) 𝒱₀ ((c : Dev nD) : Thread nD τ) none) Set.univ

/-! ## A resource for each transfer -/

/-- One resource for each transfer: the steps, and in each the streams that are still running. -/
def grid (Φ : ℕ → Fin 4 → sProp 𝕄) : sProp 𝕄 :=
  bigSep (Finset.univ : Finset (Fin 8)) fun j => bigSep Finset.univ fun k : Fin 4 => onlyIf (sq k j.val) (Φ j.val k)

omit [FloatOps F] [Named F] in
theorem onlyIf_both (q : Prop) [Decidable q] (P Q : sProp 𝕄) : onlyIf q iprop(P ∗ Q) = iprop(onlyIf q P ∗ onlyIf q Q) := by
  by_cases h : q
  · rw [onlyIf_pos h, onlyIf_pos h, onlyIf_pos h]
  · rw [onlyIf_neg h, onlyIf_neg h, onlyIf_neg h]
    exact (BI.equiv_iff.mp sep_emp).symm

omit [FloatOps F] [Named F] in
/-- Two resources for each transfer are one of each pair. -/
theorem grid_sep (Φ Ψ : ℕ → Fin 4 → sProp 𝕄) : grid (fun j k => iprop(Φ j k ∗ Ψ j k)) = iprop(grid Φ ∗ grid Ψ) := by
  unfold grid
  rw [← bigSep_sep']
  refine bigSep_congr fun j _ => ?_
  rw [← bigSep_sep']
  exact bigSep_congr fun k _ => onlyIf_both _ _ _

omit [FloatOps F] [Named F] in
theorem onlyIf_map {q : Prop} [Decidable q] {R P Q : sProp 𝕄} [BI.Persistent R] (h : q → iprop(R ∗ P) ⊢ Q) : iprop(R ∗ onlyIf q P) ⊢ onlyIf q Q := by
  by_cases hq : q
  · rw [onlyIf_pos hq, onlyIf_pos hq]; exact h hq
  · rw [onlyIf_neg hq, onlyIf_neg hq]
    iintro ⟨-, -⟩; iempintro

omit [FloatOps F] [Named F] in
/-- A change made transfer by transfer, on records every transfer may consult. -/
theorem grid_map {R : sProp 𝕄} [BI.Persistent R] {Φ Ψ : ℕ → Fin 4 → sProp 𝕄} (h : ∀ j k, sq k j → iprop(R ∗ Φ j k) ⊢ Ψ j k) : iprop(R ∗ grid Φ) ⊢ grid Ψ := by
  unfold grid
  exact bigSep_with_persistent fun j _ => bigSep_with_persistent fun k _ => onlyIf_map (h j.val k)

omit [FloatOps F] [Named F] in
theorem grid_mono {Φ Ψ : ℕ → Fin 4 → sProp 𝕄} (h : ∀ j k, sq k j → Φ j k ⊢ Ψ j k) : grid Φ ⊢ grid Ψ := by
  unfold grid
  refine bigSep_mono fun j _ => bigSep_mono fun k _ => ?_
  by_cases hq : sq k j.val
  · rw [onlyIf_pos hq, onlyIf_pos hq]; exact h _ _ hq
  · rw [onlyIf_neg hq, onlyIf_neg hq]; exact BI.Entails.refl _

omit [FloatOps F] [Named F] in
theorem bigSep_upd {I : Type} [DecidableEq I] (s : Finset I) (Φ : I → sProp 𝕄) : bigSep s (fun i => iprop(|={Set.univ}=> Φ i)) ⊢ iprop(|={Set.univ}=> bigSep s Φ) := by
  induction s using Finset.induction_on with
  | empty => rw [BI.bigSep_empty, BI.bigSep_empty]; iintro H; imodintro; iexact H
  | insert a s ha ih =>
    rw [bigSep_insert ha, bigSep_insert ha]
    refine (show iprop((|={Set.univ}=> Φ a) ∗ bigSep s fun i => iprop(|={Set.univ}=> Φ i)) ⊢ iprop(|={Set.univ}=> (Φ a ∗ bigSep s Φ)) from ?_)
    iintro ⟨Ha, Hs⟩
    imod Ha
    ihave H := ih $$ Hs
    imod H
    imodintro
    isplitl [Ha]; · iexact Ha
    iexact H

omit [FloatOps F] [Named F] in
theorem onlyIf_upd (q : Prop) [Decidable q] (P : sProp 𝕄) : onlyIf q iprop(|={Set.univ}=> P) ⊢ iprop(|={Set.univ}=> onlyIf q P) := by
  by_cases hq : q
  · rw [onlyIf_pos hq, onlyIf_pos hq]
  · rw [onlyIf_neg hq, onlyIf_neg hq]; iintro H; imodintro; iexact H

omit [FloatOps F] [Named F] in
theorem grid_upd (Φ : ℕ → Fin 4 → sProp 𝕄) : grid (fun j k => iprop(|={Set.univ}=> Φ j k)) ⊢ iprop(|={Set.univ}=> grid Φ) := by
  unfold grid
  exact (bigSep_mono fun j _ => (bigSep_mono fun k _ => onlyIf_upd _ _).trans (bigSep_upd _ _)).trans (bigSep_upd _ _)

omit [FloatOps F] [Named F] in
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] [Named F] in
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] [Named F] in
/-- Seven of eight. -/
theorem seven_of_eight (Φ : ℕ → sProp 𝕄) :
    (bigSep (Finset.univ : Finset (Fin 8)) fun j => onlyIf (j.val < 7) (Φ j.val)) = bigSep (Finset.univ : Finset (Fin 7)) fun j => Φ j.val := by
  rw [bigSep_erase (Finset.mem_univ (7 : Fin 8)), onlyIf_neg (by decide), show (Finset.univ.erase (7 : Fin 8)) = Finset.univ.map (Fin.castSuccEmb : Fin 7 ↪ Fin 8) from by decide,
    bigSep_map]
  refine (BI.equiv_iff.mp emp_sep).trans (bigSep_congr fun j _ => ?_)
  exact onlyIf_pos j.isLt _

omit [FloatOps F] [Named F] in
/-- The transfers to the right, eight steps of two streams, and those to the left, seven. -/
theorem grid_split (Φ : ℕ → Fin 4 → sProp 𝕄) :
    grid Φ = iprop((bigSep (Finset.univ : Finset (Fin 8)) fun j => iprop(Φ j.val 0 ∗ Φ j.val 1)) ∗ bigSep (Finset.univ : Finset (Fin 7)) fun j => iprop(Φ j.val 2 ∗ Φ j.val 3)) := by
  rw [← seven_of_eight (fun j => iprop(Φ j 2 ∗ Φ j 3)), ← bigSep_sep']
  unfold grid
  refine bigSep_congr fun j _ => ?_
  rw [four, onlyIf_pos (show sq 0 j.val from j.isLt), onlyIf_pos (show sq 1 j.val from j.isLt), onlyIf_both]
  refine BI.equiv_iff.mp ⟨show (_ : sProp 𝕄) ⊢ _ from ?_, show (_ : sProp 𝕄) ⊢ _ from ?_⟩
  · iintro ⟨A, B, C⟩
    isplitr [C]
    · isplitl [A]; · iexact A
      iexact B
    iexact C
  · iintro ⟨⟨A, B⟩, C⟩
    isplitl [A]; · iexact A
    isplitl [B]; · iexact B
    iexact C

omit [FloatOps F] [Named F] in
/-- Nine steps of which the first has nothing to wait for, -/
theorem grid_late (Φ : ℕ → Fin 4 → sProp 𝕄) :
    (bigSep (Finset.univ : Finset (Fin 9)) fun h => bigSep Finset.univ fun k : Fin 4 => onlyIf (rq k h.val) (Φ (h.val - 1) k)) = grid Φ := by
  rw [bigSep_erase (Finset.mem_univ (0 : Fin 9)), show (Finset.univ.erase (0 : Fin 9)) = Finset.univ.map (Fin.succEmb 8) from by decide, bigSep_map,
    bigSep_congr (s := Finset.univ) (Φ := fun k : Fin 4 => onlyIf (rq k (0 : Fin 9).val) _) (Ψ := fun _ => (BI.emp : sProp 𝕄))
      (fun k _ => onlyIf_neg (fun h => absurd h.1 (by decide)) _), BI.bigSep_emp_const]
  refine (BI.equiv_iff.mp emp_sep).trans (bigSep_congr fun j _ => bigSep_congr fun k _ => ?_)
  show onlyIf (rq k (j.val + 1)) (Φ (j.val + 1 - 1) k) = _
  by_cases h : sq k j.val
  · rw [onlyIf_pos h, onlyIf_pos (show rq k (j.val + 1) from ⟨Nat.le_add_left _ _, h⟩), Nat.add_sub_cancel]
  · rw [onlyIf_neg h, onlyIf_neg (show ¬ rq k (j.val + 1) from fun hh => h hh.2)]

omit [FloatOps F] [Named F] in
/-- and of which the last sends nothing. -/
theorem grid_early (Φ : ℕ → Fin 4 → sProp 𝕄) :
    (bigSep (Finset.univ : Finset (Fin 9)) fun h => bigSep Finset.univ fun k : Fin 4 => onlyIf (sq k h.val) (Φ h.val k)) = grid Φ := by
  have hn : ∀ k : Fin 4, ¬ sq k (8 : Fin 9).val := by decide
  rw [bigSep_erase (Finset.mem_univ (8 : Fin 9)), show (Finset.univ.erase (8 : Fin 9)) = Finset.univ.map (Fin.castSuccEmb : Fin 8 ↪ Fin 9) from by decide, bigSep_map,
    bigSep_congr (s := Finset.univ) (Φ := fun k : Fin 4 => onlyIf (sq k (8 : Fin 9).val) _) (Ψ := fun _ => (BI.emp : sProp 𝕄))
      (fun k _ => onlyIf_neg (hn k) _), BI.bigSep_emp_const]
  exact BI.equiv_iff.mp emp_sep

omit [FloatOps F] [Named F] in
/-- What only the first of nine steps has. -/
theorem first_only (P : sProp 𝕄) : (bigSep (Finset.univ : Finset (Fin 9)) fun h => onlyIf (h.val = 0) P) = P := by
  rw [bigSep_erase (Finset.mem_univ (0 : Fin 9)), onlyIf_pos (by rfl),
    bigSep_congr (s := Finset.univ.erase (0 : Fin 9)) (Φ := fun h : Fin 9 => onlyIf (h.val = 0) P) (Ψ := fun _ => (BI.emp : sProp 𝕄))
      (fun h hh => onlyIf_neg (fun e => (Finset.mem_erase.mp hh).1 (Fin.ext e)) _), BI.bigSep_emp_const]
  exact BI.equiv_iff.mp sep_emp

omit [FloatOps F] [Named F] in
/-- A resource of each of the kernel's own semaphores: the exit barrier's, and each transfer's two. -/
theorem grid_sems (Ψ : SemLoc sig → sProp 𝕄) :
    (bigSep (Finset.univ : Finset KI) fun k => Ψ (osem k)) = iprop(Ψ (.reg endS) ∗ grid fun j k => iprop(Ψ (.dma (sS k j)) ∗ Ψ (.dma (rS k j)))) := by
  rw [bigSep_erase (Finset.mem_univ (none : KI)), show (Finset.univ.erase (none : KI)) = Finset.univ.map (Function.Embedding.some) from by decide +kernel, bigSep_map, bigSep_univ_prod]
  refine congrArg (fun P : sProp 𝕄 => iprop(Ψ (.reg endS) ∗ P)) ?_
  have e : ∀ x : KJ, (bigSep (Finset.univ : Finset Bool) fun b => Ψ (osem (Function.Embedding.some (x, b))))
      = iprop(Ψ (.dma (sS x.1.2 x.1.1.val)) ∗ Ψ (.dma (rS x.1.2 x.1.1.val))) := fun x =>
    bigSep_univ_eq_bigSepL [true, false] (by decide) (by decide) _
  rw [bigSep_congr fun x _ => e x]
  rw [bigSep_onlyIf (fun x : Fin 8 × Fin 4 => x.1.val < cnt x.2) (fun x => iprop(Ψ (.dma (sS x.2 x.1.val)) ∗ Ψ (.dma (rS x.2 x.1.val)))), bigSep_univ_prod]
  rfl

/-! ## The slots -/

omit [FloatOps F] [Named F] in
/-- Sixteen slots in the order the steps consume them. -/
theorem slots_order (P : Fin 16 → sProp 𝕄) :
    (bigSep (Finset.univ : Finset (Fin 9)) fun h => iprop(P (sl h.val) ∗ onlyIf (two h.val) (P (sl (16 - h.val))))) ⊢ bigSep Finset.univ P := by
  have e9 : ∀ Φ : Fin 9 → sProp 𝕄, bigSep Finset.univ Φ = iprop(Φ 0 ∗ Φ 1 ∗ Φ 2 ∗ Φ 3 ∗ Φ 4 ∗ Φ 5 ∗ Φ 6 ∗ Φ 7 ∗ Φ 8) := fun Φ =>
    bigSep_univ_eq_bigSepL [0, 1, 2, 3, 4, 5, 6, 7, 8] (by decide) (by decide) Φ
  have e16 : bigSep Finset.univ P = iprop(P (sl (0 : Fin 9).val) ∗ P (sl (1 : Fin 9).val) ∗ P (sl (16 - (1 : Fin 9).val)) ∗ P (sl (2 : Fin 9).val) ∗ P (sl (16 - (2 : Fin 9).val)) ∗ P (sl (3 : Fin 9).val) ∗ P (sl (16 - (3 : Fin 9).val)) ∗ P (sl (4 : Fin 9).val) ∗ P (sl (16 - (4 : Fin 9).val)) ∗ P (sl (5 : Fin 9).val) ∗ P (sl (16 - (5 : Fin 9).val)) ∗ P (sl (6 : Fin 9).val) ∗ P (sl (16 - (6 : Fin 9).val)) ∗ P (sl (7 : Fin 9).val) ∗ P (sl (16 - (7 : Fin 9).val)) ∗ P (sl (8 : Fin 9).val)) :=
    bigSep_univ_eq_bigSepL [sl (0 : Fin 9).val, sl (1 : Fin 9).val, sl (16 - (1 : Fin 9).val), sl (2 : Fin 9).val, sl (16 - (2 : Fin 9).val), sl (3 : Fin 9).val, sl (16 - (3 : Fin 9).val), sl (4 : Fin 9).val, sl (16 - (4 : Fin 9).val), sl (5 : Fin 9).val, sl (16 - (5 : Fin 9).val), sl (6 : Fin 9).val, sl (16 - (6 : Fin 9).val), sl (7 : Fin 9).val, sl (16 - (7 : Fin 9).val), sl (8 : Fin 9).val] (by decide) (by decide) P
  rw [e9, e16]
  have t0 : ¬ two (0 : Fin 9).val := by decide
  have t8 : ¬ two (8 : Fin 9).val := by decide
  have t1 : two (1 : Fin 9).val := by decide
  have t2 : two (2 : Fin 9).val := by decide
  have t3 : two (3 : Fin 9).val := by decide
  have t4 : two (4 : Fin 9).val := by decide
  have t5 : two (5 : Fin 9).val := by decide
  have t6 : two (6 : Fin 9).val := by decide
  have t7 : two (7 : Fin 9).val := by decide
  rw [onlyIf_neg t0, onlyIf_neg t8, onlyIf_pos t1, onlyIf_pos t2, onlyIf_pos t3, onlyIf_pos t4, onlyIf_pos t5, onlyIf_pos t6, onlyIf_pos t7]
  iintro ⟨⟨A0, -⟩, ⟨A1, B1⟩, ⟨A2, B2⟩, ⟨A3, B3⟩, ⟨A4, B4⟩, ⟨A5, B5⟩, ⟨A6, B6⟩, ⟨A7, B7⟩, ⟨A8, -⟩⟩
  isplitl [A0]; · iexact A0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [A5]; · iexact A5
  isplitl [B5]; · iexact B5
  isplitl [A6]; · iexact A6
  isplitl [B6]; · iexact B6
  isplitl [A7]; · iexact A7
  isplitl [B7]; · iexact B7
  iexact A8

omit [FloatOps F] [Named F] in
/-- The shares a step lent and kept, back together. -/
theorem unshare (P : Fin 16 → PosShare TreeShare → sProp 𝕄)
    (hP : ∀ (s : Fin 16) (q : PosShare TreeShare), P s q = iprop(P s q.left ∗ P s q.right)) (h : ℕ) (hh : h < 9) :
    iprop(P (sl h) (kq h) ∗ onlyIf (two h) (P (sl (16 - h)) (kq' h)) ∗ onlyIf (h < 8) (P (sl h) fullShare.left) ∗ onlyIf (h < 7) (P (sl (16 - h)) (cq h)))
      ⊢ iprop(P (sl h) fullShare ∗ onlyIf (two h) (P (sl (16 - h)) fullShare)) := by
  by_cases h0 : h = 0
  · subst h0
    rw [onlyIf_neg (show ¬ two 0 from by decide), onlyIf_neg (show ¬ two 0 from by decide), onlyIf_pos (show 0 < 8 from by decide), onlyIf_pos (show 0 < 7 from by decide),
      hP (sl 0) fullShare, hP (sl 0) fullShare.right, show kq 0 = fullShare.right.right from if_pos rfl, show cq 0 = fullShare.right.left from if_pos rfl,
      show sl (16 - 0) = sl 0 from by decide]
    iintro ⟨A, -, B, C⟩
    isplitl
    · isplitl [B]; · iexact B
      isplitl [C]; · iexact C
      iexact A
    iempintro
  · by_cases h8 : h < 8
    · have t : two h := ⟨Nat.one_le_iff_ne_zero.mpr h0, by omega⟩
      rw [onlyIf_pos t, onlyIf_pos t, onlyIf_pos h8, hP (sl h) fullShare, show kq h = fullShare.right from (if_neg h0).trans (if_pos (by omega))]
      by_cases h7 : h < 7
      · rw [onlyIf_pos h7, hP (sl (16 - h)) fullShare, show cq h = fullShare.left from if_neg h0, show kq' h = fullShare.right from if_pos (by omega)]
        iintro ⟨A, B, C, D⟩
        isplitl [A C]
        · isplitl [C]; · iexact C
          iexact A
        isplitl [D]; · iexact D
        iexact B
      · rw [onlyIf_neg h7, show kq' h = fullShare from if_neg (by omega)]
        iintro ⟨A, B, C, -⟩
        isplitl [A C]
        · isplitl [C]; · iexact C
          iexact A
        iexact B
    · have t : ¬ two h := fun t => h8 (by have := t.2; omega)
      rw [onlyIf_neg t, onlyIf_neg t, onlyIf_neg h8, onlyIf_neg (by omega), show kq h = fullShare from (if_neg h0).trans (if_neg (by omega))]
      iintro ⟨A, -, -, -⟩
      isplitl [A]; · iexact A
      iempintro

theorem slot_disj6 : ∀ s s' : Fin 16, s ≠ s' → Disjoint (slot6 s).view.set (slot6 s').view.set := fun s s' h => by
  rw [Finset.disjoint_left]
  intro i h1 h2
  obtain ⟨j, -, rfl⟩ := Finset.mem_map.mp h1
  obtain ⟨j', -, e⟩ := Finset.mem_map.mp h2
  rw [emb6, emb6] at e
  exact h (congrFun e 0).symm
theorem slot_disj7 : ∀ s s' : Fin 16, s ≠ s' → Disjoint (slot7 s).view.set (slot7 s').view.set := fun s s' h => by
  rw [Finset.disjoint_left]
  intro i h1 h2
  obtain ⟨j, -, rfl⟩ := Finset.mem_map.mp h1
  obtain ⟨j', -, e⟩ := Finset.mem_map.mp h2
  rw [emb7, emb7] at e
  exact h (congrFun e 0).symm
theorem slot_at6 (i : S16x512x256.Idx) : ∃ (s : Fin 16) (j : S512x256.Idx), (slot6 s).view.emb j = i :=
  ⟨i 0, fun | 0 => i 1 | 1 => i 2, (emb6 (i 0) _).trans (funext fun a => match a with
    | 0 => rfl
    | 1 => rfl
    | 2 => rfl)⟩
theorem slot_cover6 : Finset.biUnion (β := S16x512x256.Idx) Finset.univ (fun s : Fin 16 => (slot6 s).view.set) = Finset.univ :=
  Finset.eq_univ_iff_forall.mpr fun i => by
    obtain ⟨s, j, h⟩ := slot_at6 i
    exact Finset.mem_biUnion.mpr ⟨s, Finset.mem_univ _, Finset.mem_map.mpr ⟨j, Finset.mem_univ _, h⟩⟩
theorem slot_at7 (i : S16x256x512.Idx) : ∃ (s : Fin 16) (j : S256x512.Idx), (slot7 s).view.emb j = i :=
  ⟨i 0, fun | 0 => i 1 | 1 => i 2, (emb7 (i 0) _).trans (funext fun a => match a with
    | 0 => rfl
    | 1 => rfl
    | 2 => rfl)⟩
theorem slot_cover7 : Finset.biUnion (β := S16x256x512.Idx) Finset.univ (fun s : Fin 16 => (slot7 s).view.set) = Finset.univ :=
  Finset.eq_univ_iff_forall.mpr fun i => by
    obtain ⟨s, j, h⟩ := slot_at7 i
    exact Finset.mem_biUnion.mpr ⟨s, Finset.mem_univ _, Finset.mem_map.mpr ⟨j, Finset.mem_univ _, h⟩⟩
variable (A1 : Dev nD → S512x256.Idx → Elt F .bf16) (A2 : Dev nD → S256x512.Idx → Elt F .bf16)

omit [FloatOps F] [Named F] in
/-- A ring buffer is its sixteen slots, at anything; -/
theorem slots6 (c : Dev nD) : iprop(∃ f : Buf (Elt F) ((c : Thread nD τ).loc cc0_scratch0), (c : Thread nD τ).loc cc0_scratch0 ↦{fullShare} f)
    ⊢ (bigSep Finset.univ fun s : Fin 16 => W6 (F := F) c s) := by
  iintro ⟨%f, H⟩
  have e : ((c : Thread nD τ).loc cc0_scratch0 ↦{fullShare} f : sProp 𝕄) = _ := Ring.pointsTo_blocks (ℓ := (c : Thread nD τ).loc cc0_scratch0) (fun s : Fin 16 => (slot6 s).view.set) slot_disj6 slot_cover6 (q := fullShare) f
  have e2 : (bigSep Finset.univ fun s : Fin 16 => ((c : Thread nD τ).loc cc0_scratch0 ↦[(slot6 s).view.set]{fullShare} f : sProp 𝕄)) ⊢ bigSep Finset.univ fun s : Fin 16 => W6 (F := F) c s :=
    bigSep_mono fun s _ => by unfold W6; refine (show (_ : sProp 𝕄) ⊢ _ from ?_); iintro H; iexists f; iexact H
  iapply e2
  iapply (Entails.of_eq e) $$ H
omit [FloatOps F] [Named F] in
theorem slots7 (c : Dev nD) : iprop(∃ f : Buf (Elt F) ((c : Thread nD τ).loc cc0_scratch1), (c : Thread nD τ).loc cc0_scratch1 ↦{fullShare} f)
    ⊢ (bigSep Finset.univ fun s : Fin 16 => W7 (F := F) c s) := by
  iintro ⟨%f, H⟩
  have e : ((c : Thread nD τ).loc cc0_scratch1 ↦{fullShare} f : sProp 𝕄) = _ := Ring.pointsTo_blocks (ℓ := (c : Thread nD τ).loc cc0_scratch1) (fun s : Fin 16 => (slot7 s).view.set) slot_disj7 slot_cover7 (q := fullShare) f
  have e2 : (bigSep Finset.univ fun s : Fin 16 => ((c : Thread nD τ).loc cc0_scratch1 ↦[(slot7 s).view.set]{fullShare} f : sProp 𝕄)) ⊢ bigSep Finset.univ fun s : Fin 16 => W7 (F := F) c s :=
    bigSep_mono fun s _ => by unfold W7; refine (show (_ : sProp 𝕄) ⊢ _ from ?_); iintro H; iexists f; iexact H
  iapply e2
  iapply (Entails.of_eq e) $$ H
omit [FloatOps F] [Named F] in
/-- and the slots as they end are the buffer. -/
theorem whole6 (c : Dev nD) : (bigSep Finset.univ fun s : Fin 16 => P6 A1 c s fullShare) ⊢ ((c : Thread nD τ).loc cc0_scratch0 ↦{fullShare} G6 A1 c : sProp 𝕄) :=
  Entails.of_eq (Ring.pointsTo_blocks (ℓ := (c : Thread nD τ).loc cc0_scratch0) (fun s : Fin 16 => (slot6 s).view.set) slot_disj6 slot_cover6 (q := fullShare) (G6 A1 c)).symm
omit [FloatOps F] [Named F] in
theorem whole7 (c : Dev nD) : (bigSep Finset.univ fun s : Fin 16 => P7 A2 c s fullShare) ⊢ ((c : Thread nD τ).loc cc0_scratch1 ↦{fullShare} G7 A2 c : sProp 𝕄) :=
  Entails.of_eq (Ring.pointsTo_blocks (ℓ := (c : Thread nD τ).loc cc0_scratch1) (fun s : Fin 16 => (slot7 s).view.set) slot_disj7 slot_cover7 (q := fullShare) (G7 A2 c)).symm

omit [FloatOps F] [Named F] in
/-- Sixteen slots in the order the transfers write them, the device's own first. -/
theorem slots_sent (P : Fin 16 → sProp 𝕄) :
    bigSep Finset.univ P = iprop(P (sl 0) ∗ (bigSep (Finset.univ : Finset (Fin 8)) fun j => P (sl (j.val + 1))) ∗ bigSep (Finset.univ : Finset (Fin 7)) fun j => P (sl (15 - j.val))) := by
  rw [bigSep_erase (Finset.mem_univ (sl 0)),
    show (Finset.univ.erase (sl 0)) = (Finset.univ.map ⟨fun j : Fin 8 => sl (j.val + 1), by decide⟩) ∪ (Finset.univ.map ⟨fun j : Fin 7 => sl (15 - j.val), by decide⟩) from by decide,
    bigSep_union (by decide), bigSep_map, bigSep_map]
  rfl

end Cert.KernelIdeal.Run
-- ==== Proof.EnterKI.lean ====
/-
  The entry of the kernel's body, its barrier and its own blocks' copies, and the exit with its barrier.
-/
module

public import proofs.«01_k».proof.Proof.GridKI
public import Idealize.ShloMosaic.Lib.Pipeline.Value

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "wpc" c => wp frame (wpE (defs₀ (F := F)) 𝒱₀ ((c : Dev nD) : Thread nD τ) none) Set.univ

variable (A1 : Dev nD → S512x256.Idx → Elt F .bf16) (A2 : Dev nD → S256x512.Idx → Elt F .bf16)
  (X : S256x512.Idx → Elt F .bf16) (K V : S64x256x64.Idx → Elt F .bf16)

theorem zero3 : (![0, 0, 0] : Fin 3 → Nat) = ![(0 : Fin 16).val, 0, 0] := by decide

omit [FloatOps F] [Named F] in
theorem read1 {i} (o : S512x256.Idx → Elt F .bf16) : m1.view.readAt (Elt F) (Rect.unit (s := S512x256) ![0, 0] S512x256.size i).toLoadRect o = o :=
  Memref.readAt_unit_zero (Elt F) cc0_stg1_0 zero2 i o
omit [FloatOps F] [Named F] in
theorem read2 {i} (o : S256x512.Idx → Elt F .bf16) : m2.view.readAt (Elt F) (Rect.unit (s := S256x512) ![0, 0] S256x512.size i).toLoadRect o = o :=
  Memref.readAt_unit_zero (Elt F) cc0_stg2_0 zero2 i o
omit [FloatOps F] [Named F] in
theorem read0 {i} (o : S256x512.Idx → Elt F .bf16) : m0.view.readAt (Elt F) (Rect.unit (s := S256x512) ![0, 0] S256x512.size i).toLoadRect o = o :=
  Memref.readAt_unit_zero (Elt F) cc0_stg0_0 zero2 i o

theorem org_own (c : Dev nD) : org c (sl 0) = c := by revert c; decide

omit [Named F] in
/-- The device's own projection weights, copied into slot 0. -/
theorem own6 (c : Dev nD) (f : Buf (Elt F) ((slot6 (sl 0)).view.loc (c : Thread nD τ))) :
    ((slot6 (sl 0)).view.loc (c : Thread nD τ) ↦[(slot6 (sl 0)).view.set]{fullShare} ((q6.access (rect6 (sl 0))).write (Elt F) f (k0_pay33 (A1 c)) Finset.univ) : sProp 𝕄)
      = P6 A1 c (sl 0) fullShare := by
  unfold P6
  refine pointsTo_congr fun i hi => ?_
  obtain ⟨j, -, rfl⟩ := Finset.mem_map.mp hi
  rw [G6_emb, org_own]
  have e : (slot6 (sl 0)).view.emb j = (q6.access (rect6 (sl 0))).emb (Shape.reshapeEquiv (s := S1x512x256) (s' := S512x256) (by decide) j) := rfl
  rw [e, View.write_emb_of_mem _ _ (Finset.mem_univ _)]
  unfold k0_pay33
  rw [shapeCast_self]
  exact congrFun (shapeCast_shapeCast (A1 c) shapeCasts_S512x256_S1x512x256 (by decide)) j
omit [Named F] in
/-- The device's own output weights, copied into slot 0. -/
theorem own7 (c : Dev nD) (f : Buf (Elt F) ((slot7 (sl 0)).view.loc (c : Thread nD τ))) :
    ((slot7 (sl 0)).view.loc (c : Thread nD τ) ↦[(slot7 (sl 0)).view.set]{fullShare} ((q7.access (rect7 (sl 0))).write (Elt F) f (k0_pay34 (A2 c)) Finset.univ) : sProp 𝕄)
      = P7 A2 c (sl 0) fullShare := by
  unfold P7
  refine pointsTo_congr fun i hi => ?_
  obtain ⟨j, -, rfl⟩ := Finset.mem_map.mp hi
  rw [G7_emb, org_own]
  have e : (slot7 (sl 0)).view.emb j = (q7.access (rect7 (sl 0))).emb (Shape.reshapeEquiv (s := S1x256x512) (s' := S256x512) (by decide) j) := rfl
  rw [e, View.write_emb_of_mem _ _ (Finset.mem_univ _)]
  unfold k0_pay34
  rw [shapeCast_self]
  exact congrFun (shapeCast_shapeCast (A2 c) shapeCasts_S256x512_S1x256x512 (by decide)) j

/-- The copy of a device's own projection weights into slot 0: two loads and a store. -/
theorem copy6 (c : Dev nD) {o6 : Fin 3 → Nat} (h6 : o6 = ![(sl 0).val, 0, 0]) {i1 i6 i6'} {l1 l6 hx hm} {pay : Vec F S512x256 .bf16 → Vec F S1x512x256 .bf16} (hp : ∀ w, pay w = k0_pay33 w)
    {α : Type} {Q : α → sProp 𝕄} {KK : Prog (TpuEff nD τ sig (Elt F) Λ₀ .tc) α} :
    iprop(((c : Thread nD τ).loc cc0_stg1_0 ↦{fullShare} A1 c) ∗ W6 (F := F) c (sl 0))
      ⊢ iprop(((((c : Thread nD τ).loc cc0_stg1_0 ↦{fullShare} A1 c) ∗ P6 A1 c (sl 0) fullShare) -∗ (wpc c) KK Q)
        -∗ (wpc c) (.op (.load m1 (Rect.unit (s := S512x256) ![0, 0] S512x256.size i1).toLoadRect l1) fun w =>
          .op (.load q6 (Rect.unit (s := S16x512x256) o6 S1x512x256.size i6).toLoadRect l6) fun _ =>
          .op (.store q6 (Rect.unit (s := S16x512x256) o6 S1x512x256.size i6') (pay w) Finset.univ hx hm) fun _ => KK) Q) := by
  subst h6
  unfold W6
  iintro ⟨H1, ⟨%f, H6⟩⟩ Hk
  iapply (wp_load 𝒱₀ (c : Thread nD τ) none Set.univ (m := m1) (Finset.subset_univ _)) $$ H1; iintro H1
  iapply (wp_load 𝒱₀ (c : Thread nD τ) none Set.univ (m := q6) (slot6_set (sl 0))) $$ H6; iintro H6
  iapply (wp_store 𝒱₀ (c : Thread nD τ) none Set.univ (m := q6) (r := rect6 (sl 0)) (S := (slot6 (sl 0)).view.set)
    (by rw [show (slot6 (sl 0)).view.set = (q6.access (rect6 (sl 0))).set from View.set_reshape _ _]; exact Finset.Subset.refl _)) $$ H6
  iintro H6
  iapply Hk
  isplitl [H1]; · iexact H1
  iapply (Entails.of_eq (own6 A1 c f))
  iapply (Entails.of_eq (congrArg (fun w => ((slot6 (sl 0)).view.loc (c : Thread nD τ) ↦[(slot6 (sl 0)).view.set]{fullShare} ((q6.access (rect6 (sl 0))).write (Elt F) f w Finset.univ) : sProp 𝕄))
    ((hp _).trans (congrArg k0_pay33 (read1 (i := i1) (A1 c)))))) $$ H6

/-- The copy of a device's own output weights into slot 0. -/
theorem copy7 (c : Dev nD) {o7 : Fin 3 → Nat} (h7 : o7 = ![(sl 0).val, 0, 0]) {i2 i7 i7'} {l2 l7 hx hm} {pay : Vec F S256x512 .bf16 → Vec F S1x256x512 .bf16} (hp : ∀ w, pay w = k0_pay34 w)
    {α : Type} {Q : α → sProp 𝕄} {KK : Prog (TpuEff nD τ sig (Elt F) Λ₀ .tc) α} :
    iprop(((c : Thread nD τ).loc cc0_stg2_0 ↦{fullShare} A2 c) ∗ W7 (F := F) c (sl 0))
      ⊢ iprop(((((c : Thread nD τ).loc cc0_stg2_0 ↦{fullShare} A2 c) ∗ P7 A2 c (sl 0) fullShare) -∗ (wpc c) KK Q)
        -∗ (wpc c) (.op (.load m2 (Rect.unit (s := S256x512) ![0, 0] S256x512.size i2).toLoadRect l2) fun w =>
          .op (.load q7 (Rect.unit (s := S16x256x512) o7 S1x256x512.size i7).toLoadRect l7) fun _ =>
          .op (.store q7 (Rect.unit (s := S16x256x512) o7 S1x256x512.size i7') (pay w) Finset.univ hx hm) fun _ => KK) Q) := by
  subst h7
  unfold W7
  iintro ⟨H1, ⟨%f, H6⟩⟩ Hk
  iapply (wp_load 𝒱₀ (c : Thread nD τ) none Set.univ (m := m2) (Finset.subset_univ _)) $$ H1; iintro H1
  iapply (wp_load 𝒱₀ (c : Thread nD τ) none Set.univ (m := q7) (slot7_set (sl 0))) $$ H6; iintro H6
  iapply (wp_store 𝒱₀ (c : Thread nD τ) none Set.univ (m := q7) (r := rect7 (sl 0)) (S := (slot7 (sl 0)).view.set)
    (by rw [show (slot7 (sl 0)).view.set = (q7.access (rect7 (sl 0))).set from View.set_reshape _ _]; exact Finset.Subset.refl _)) $$ H6
  iintro H6
  iapply Hk
  isplitl [H1]; · iexact H1
  iapply (Entails.of_eq (own7 A2 c f))
  iapply (Entails.of_eq (congrArg (fun w => ((slot7 (sl 0)).view.loc (c : Thread nD τ) ↦[(slot7 (sl 0)).view.set]{fullShare} ((q7.access (rect7 (sl 0))).write (Elt F) f w Finset.univ) : sProp 𝕄))
    ((hp _).trans (congrArg k0_pay34 (read2 (i := i2) (A2 c)))))) $$ H6

/-- The output cleared. -/
theorem clear5 (c : Dev nD) (o w : Vec F S256x512 .f32) {i5 i5'} {l5 hx hm}
    {α : Type} {Q : α → sProp 𝕄} {KK : Prog (TpuEff nD τ sig (Elt F) Λ₀ .tc) α} :
    ((c : Thread nD τ).loc cc0_stg5_0 ↦{fullShare} o : sProp 𝕄)
      ⊢ iprop((((c : Thread nD τ).loc cc0_stg5_0 ↦{fullShare} w) -∗ (wpc c) KK Q)
        -∗ (wpc c) (.op (.load m5 (Rect.unit (s := S256x512) ![0, 0] S256x512.size i5).toLoadRect l5) fun _ =>
          .op (.store m5 (Rect.unit (s := S256x512) ![0, 0] S256x512.size i5') w Finset.univ hx hm) fun _ => KK) Q) := by
  iintro H5 Hk
  iapply (wp_load 𝒱₀ (c : Thread nD τ) none Set.univ (m := m5) (Finset.subset_univ _)) $$ H5; iintro H5
  iapply (wp_store 𝒱₀ (c : Thread nD τ) none Set.univ (m := m5) (r := Rect.unit (s := S256x512) ![0, 0] S256x512.size i5') (S := Finset.univ) (Finset.subset_univ _)) $$ H5; iintro H5
  iapply Hk
  iapply (Entails.of_eq (congrArg (fun w => ((c : Thread nD τ).loc cc0_stg5_0 ↦{fullShare} w : sProp 𝕄)) (write5 (i := i5') o w))) $$ H5

/-- A signal to a barrier cell of another device. -/
theorem tell (κ : GSem nD τ sig → ℕ) (c d : Dev nD) (s : Sem sig) (b : Bool) (n : ℕ) (hmem : ((d : Thread nD τ), SemLoc.reg s) ∈ (barCells ∪ scCells : Finset (GSem nD τ sig)))
    (hO : owed c n = owed c (n + 1) + tallyAt ((d : Thread nD τ), .reg s) () 1) (Pay : sProp 𝕄) (hpay : (Rd A1 A2).payload ((d : Thread nD τ), .reg s) 0 b = Pay)
    {α : Type} {Q : α → sProp 𝕄} {k : PUnit → Prog (TpuEff nD τ sig (Elt F) Λ₀ .tc) α} :
    iprop(recs A1 A2 κ ∗ dutyTok ER ((d : Thread nD τ), .reg s) 0 b ∗ reached ER ((d : Thread nD τ), .reg s) 0 ∗ Pay ∗ owing c n)
      ⊢ iprop((owing c (n + 1) -∗ (wpc c) (k ⟨⟩) Q) -∗ (wpc c) (.op (.semSignal (d : Thread nD τ) s 1) k) Q) := by
  unfold owing
  iintro ⟨#HR, Ht, Hr, HP, ⟨%W, HO⟩⟩ Hk
  iapply (Rounds.wp_signal 𝒱₀ ER (Rd A1 A2) (c : Thread nD τ) none (dst := (d : Thread nD τ)) (κ := κ ((d : Thread nD τ), .reg s)) (r := 0) (d := b)
      (by rw [duties_tc]; exact Finset.mem_univ _) (show amt (.reg s) = 1 from rfl) () (owed c (n + 1)) hO) $$ [HO Ht HP Hr]
  · isplitr; · iapply (inv_at A1 A2 κ hmem); iexact HR
    isplitl [HO]; · iexact HO
    isplitl [Ht]; · iexact Ht
    isplitl [HP]; · iapply (Entails.of_eq hpay.symm) $$ HP
    iexact Hr
  iintro HO
  iapply Hk
  iexists W; iexact HO

/-- A wait for both neighbours' signals. -/
theorem hear (κ : GSem nD τ sig → ℕ) (c : Dev nD) (s : Sem sig) (n : ℕ) (hmem : ((c : Thread nD τ), SemLoc.reg s) ∈ (barCells ∪ scCells : Finset (GSem nD τ sig)))
    (hlev : ∀ i, n ≤ i → i < 34 → lvS (.reg s) < lvS (paySem i)) {α : Type} {Q : α → sProp 𝕄} {k : PUnit → Prog (TpuEff nD τ sig (Elt F) Λ₀ .tc) α} :
    iprop(recs A1 A2 κ ∗ cred (tallyAt ((c : Thread nD τ), .reg s) () 2) ∗ atPos ER ((c : Thread nD τ), .reg s) 0 ∅ 0 ∗ owing c n)
      ⊢ iprop(((bigSep ((Rd A1 A2).duties ((c : Thread nD τ), .reg s) 0 \ ∅) (fun u => (Rd A1 A2).payload ((c : Thread nD τ), .reg s) 0 u)
            ∗ atPos ER ((c : Thread nD τ), .reg s) 1 ∅ 0 ∗ owing c n) -∗ (wpc c) (k ⟨⟩) Q)
        -∗ (wpc c) (.op (.semWait s 2) k) Q) := by
  have e2 := (levels_of (F := F) A1 A2 κ).trans (mayWait (F := F) c n (lvS (.reg s)) (.reg s) (Nat.le_refl _) hlev)
  unfold owing
  iintro ⟨#HR, Hc, Hat, ⟨%W, HO⟩⟩ Hk
  iapply (Rounds.wp_wait_rest_token 𝒱₀ ER (Rd A1 A2) (c : Thread nD τ) none (κ := κ ((c : Thread nD τ), .reg s))
      (wpE_semWait_eq 𝒱₀ (c : Thread nD τ) none Set.univ) (Set.mem_univ _) () (O := owed c n) (W := W) (R := 0) (m := 0) (T := ∅)
      (by rw [expect_reg])) $$ [Hc Hat HO]
  · isplitr; · iapply (inv_at A1 A2 κ hmem); iexact HR
    isplitl [Hc]; · iexact Hc
    isplitl [HO]; · iexact HO
    isplitr
    · iapply e2; iexact HR
    iexact Hat
  iintro ⟨HO, Hat, -, Hpay⟩
  iapply Hk
  isplitl [Hpay]; · iexact Hpay
  isplitl [Hat]; · iexact Hat
  iexists _; iexact HO

omit [FloatOps F] [Named F] in
/-- What a device lends its neighbours, stream by stream; -/
theorem lend_all (c : Dev nD) : grid (fun j k => lent (F := F) c j k)
    = iprop((bigSep (Finset.univ : Finset (Fin 8)) fun j => lendL c j.val) ∗ bigSep (Finset.univ : Finset (Fin 7)) fun j => lendR c j.val) :=
  grid_split (fun j k => lent c j k)
omit [FloatOps F] [Named F] in
/-- and what it borrows. -/
theorem borrow_all (c : Dev nD) : grid (fun j k => lent (F := F) (dst c k) j k)
    = iprop((bigSep (Finset.univ : Finset (Fin 8)) fun j => lendL (nxt c) j.val) ∗ bigSep (Finset.univ : Finset (Fin 7)) fun j => lendR (prv c) j.val) :=
  grid_split (fun j k => lent (dst c k) j k)

/-- The entry: the slots lent and borrowed over the barrier, the own blocks copied, the output cleared. -/
theorem enter (κ : GSem nD τ sig → ℕ) (c : Dev nD) (o : Vec F S256x512 .f32) {Q : _ → sProp 𝕄} :
    iprop(recs A1 A2 κ ∗ (reached ER (barCell (prv c)) 0 ∗ reached ER (barCell (nxt c)) 0 ∗ reached ER (endCell c) 0)
        ∗ (atPos ER (barCell c) 0 ∅ 0 ∗ dutyTok ER (barCell (prv c)) 0 false ∗ dutyTok ER (barCell (nxt c)) 0 true ∗ cred (tallyAt (barCell c) () 2))
        ∗ grid (fun j k => lent (F := F) c j k) ∗ W6 (F := F) c (sl 0) ∗ W7 (F := F) c (sl 0) ∗ owing c 0
        ∗ ((c : Thread nD τ).loc cc0_stg1_0 ↦{fullShare} A1 c) ∗ ((c : Thread nD τ).loc cc0_stg2_0 ↦{fullShare} A2 c) ∗ ((c : Thread nD τ).loc cc0_stg5_0 ↦{fullShare} o))
      ⊢ iprop((∀ v2 v4 v7, (atPos ER (barCell c) 1 ∅ 0 ∗ (reached ER (endCell (prv c)) 0 ∗ reached ER (endCell (nxt c)) 0)
            ∗ grid (fun j k => lent (F := F) (dst c k) j k) ∗ P6 A1 c (sl 0) fullShare ∗ P7 A2 c (sl 0) fullShare ∗ owing c 2
            ∗ ((c : Thread nD τ).loc cc0_stg1_0 ↦{fullShare} A1 c) ∗ ((c : Thread nD τ).loc cc0_stg2_0 ↦{fullShare} A2 c)
            ∗ ((c : Thread nD τ).loc cc0_stg5_0 ↦{fullShare} (k0_pay35 (F := F) : Vec F S256x512 .f32))) -∗ Q ⟨c, v2, v4, v7⟩)
        -∗ (wpc c) (k0_part11 (F := F) m0 (Memref.isWhole_whole _) m1 (Memref.isWhole_whole _) m2 (Memref.isWhole_whole _) m3 (Memref.isWhole_whole _)
            m4 (Memref.isWhole_whole _) m5 (Memref.isWhole_whole _) q6 (Memref.isWhole_whole _) q7 (Memref.isWhole_whole _)
            cc0_scratch2 cc0_scratch3 cc0_scratch4 cc0_scratch5 cc0_scratch6 cc0_scratch7 cc0_scratch8 cc0_scratch9 cc0_scoped0) Q) := by
  rw [k0_part11_eq_skeleton]
  unfold k0_part11_skel
  simp only [semSignalWord, semWaitWord, Prog.lift, Prog.bind_op, Prog.bind_ret, Prog.pure_eq_ret, wp_deviceId]
  simp only [dev1_eq c, dev2_eq c]
  rw [lend_all, borrow_all]
  iintro ⟨#HR, ⟨#Rp, #Rn, #Re⟩, ⟨Hat, Tp, Tn, Hc⟩, ⟨HL, HRt⟩, H6, H7, HO, H1, H2, H5⟩ Hk
  iapply (tell A1 A2 κ c (prv c) barS false 0 (bar_mem _) (owed_bar1 c) _ (payload_bar A1 A2 (prv c) 0 false)) $$ [Tp HL HO]
  · isplitr; · iexact HR
    isplitl [Tp]; · iexact Tp
    isplitr; · iexact Rp
    isplitl [HL]
    · unfold barPay; rw [nxt_prv]
      isplitl [HL]; · iexact HL
      iexact Re
    iexact HO
  iintro HO
  iapply (tell A1 A2 κ c (nxt c) barS true 1 (bar_mem _) (owed_bar2 c) _ (payload_bar A1 A2 (nxt c) 0 true)) $$ [Tn HRt HO]
  · isplitr; · iexact HR
    isplitl [Tn]; · iexact Tn
    isplitr; · iexact Rn
    isplitl [HRt]
    · unfold barPay; rw [prv_nxt]
      isplitl [HRt]; · iexact HRt
      iexact Re
    iexact HO
  iintro HO
  iapply (hear A1 A2 κ c barS 2 (bar_mem _) (fun i h1 h2 => lv_ge 0 ⟨i, h2⟩ h1)) $$ [Hc Hat HO]
  · isplitr; · iexact HR
    isplitl [Hc]; · iexact Hc
    isplitl [Hat]; · iexact Hat
    iexact HO
  iintro ⟨HP, Hat, HO⟩
  ihave HP := (Entails.of_eq (rest_bar A1 A2 c)) $$ HP
  unfold barPay
  icases HP with ⟨⟨BR, RE1⟩, ⟨BL, RE2⟩⟩
  iapply (copy6 A1 c zero3 (fun _ => rfl)) $$ [H1 H6]
  · isplitl [H1]; · iexact H1
    iexact H6
  iintro ⟨H1, P6⟩
  iapply (copy7 A2 c zero3 (fun _ => rfl)) $$ [H2 H7]
  · isplitl [H2]; · iexact H2
    iexact H7
  iintro ⟨H2, P7⟩
  iapply (clear5 c o (k0_pay35 (F := F))) $$ H5; iintro H5
  rw [wp_ret]
  imodintro
  iapply Hk
  isplitl [Hat]; · iexact Hat
  isplitl [RE1 RE2]
  · isplitl [RE1]; · iexact RE1
    iexact RE2
  isplitl [BR BL]
  · isplitl [BL]; · iexact BL
    iexact BR
  isplitl [P6]; · iexact P6
  isplitl [P7]; · iexact P7
  isplitl [HO]; · iexact HO
  isplitl [H1]; · iexact H1
  isplitl [H2]; · iexact H2
  iexact H5

/-- The exit: both neighbours told, both heard, nothing owed. -/
theorem leave (κ : GSem nD τ sig → ℕ) (c : Dev nD) {Q : PUnit → sProp 𝕄} :
    iprop(recs A1 A2 κ ∗ (reached ER (endCell (prv c)) 0 ∗ reached ER (endCell (nxt c)) 0)
        ∗ (atPos ER (endCell c) 0 ∅ 0 ∗ dutyTok ER (endCell (prv c)) 0 false ∗ dutyTok ER (endCell (nxt c)) 0 true ∗ cred (tallyAt (endCell c) () 2)) ∗ owing c 32)
      ⊢ iprop(((atPos ER (endCell c) 1 ∅ 0 ∗ owing c 34) -∗ |={Set.univ}=> Q ⟨⟩)
        -∗ (wpc c) (.op (.semSignal (prv c : Thread nD τ) endS 1) fun _ => .op (.semSignal (nxt c : Thread nD τ) endS 1) fun _ => .op (.semWait endS 2) fun _ => .ret ⟨⟩) Q) := by
  iintro ⟨#HR, ⟨Rp, Rn⟩, ⟨Hat, Tp, Tn, Hc⟩, HO⟩ Hk
  iapply (tell A1 A2 κ c (prv c) endS false 32 (end_mem _) (owed_end1 c) _ (payload_end A1 A2 (prv c) 0 false)) $$ [Tp Rp HO]
  · isplitr; · iexact HR
    isplitl [Tp]; · iexact Tp
    isplitl [Rp]; · iexact Rp
    isplitr; · iempintro
    iexact HO
  iintro HO
  iapply (tell A1 A2 κ c (nxt c) endS true 33 (end_mem _) (owed_step c 33 (by decide)) _ (payload_end A1 A2 (nxt c) 0 true)) $$ [Tn Rn HO]
  · isplitr; · iexact HR
    isplitl [Tn]; · iexact Tn
    isplitl [Rn]; · iexact Rn
    isplitr; · iempintro
    iexact HO
  iintro HO
  iapply (hear A1 A2 κ c endS 34 (end_mem _) (fun i h1 h2 => absurd h2 (by omega))) $$ [Hc Hat HO]
  · isplitr; · iexact HR
    isplitl [Hc]; · iexact Hc
    isplitl [Hat]; · iexact Hat
    iexact HO
  iintro ⟨-, Hat, HO⟩
  rw [wp_ret]
  iapply Hk
  isplitl [Hat]; · iexact Hat
  iexact HO

end Cert.KernelIdeal.Run
-- ==== Proof.BodyKI.lean ====
/-
  The kernel's body on one device, from the state the launch leaves to the output and counters at zero.
-/
module

public import proofs.«01_k».proof.Proof.EnterKI

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "wpc" c => wp frame (wpE (defs₀ (F := F)) 𝒱₀ ((c : Dev nD) : Thread nD τ) none) Set.univ

variable (A1 : Dev nD → S512x256.Idx → Elt F .bf16) (A2 : Dev nD → S256x512.Idx → Elt F .bf16)
  (X : S256x512.Idx → Elt F .bf16) (K V : S64x256x64.Idx → Elt F .bf16)

/-! ## What the loops start from and leave -/

omit [FloatOps F] [Named F] in
/-- The nine steps' starting resources, dealt out of the transfers'. -/
theorem steps_in (c : Dev nD) : iprop(grid (F := F) (fun j k => sTodo (F := F) c k j) ∗ grid (F := F) (fun j k => rTodo (F := F) c k j) ∗ P6 A1 c (sl 0) fullShare ∗ P7 A2 c (sl 0) fullShare)
    ⊢ bigSep (Finset.univ : Finset (Fin 9)) fun h => tPre A1 A2 c h.val := by
  unfold tPre
  rw [bigSep_sep', bigSep_sep', bigSep_sep', grid_late (fun j k => rTodo c k j), grid_early (fun j k => sTodo c k j), first_only, first_only]
  iintro ⟨HS, HR, H6, H7⟩
  isplitl [HR]; · iexact HR
  isplitl [HS]; · iexact HS
  isplitl [H6]; · iexact H6
  iexact H7

omit [FloatOps F] [Named F] in
/-- What the nine steps leave, collected. -/
theorem steps_out (c : Dev nD) : (bigSep (Finset.univ : Finset (Fin 9)) fun h => tPost A1 A2 c h.val)
    = iprop(grid (F := F) (fun j k => rDone (F := F) c k j) ∗ grid (F := F) (fun j k => sDone (F := F) c k j) ∗ bigSep (Finset.univ : Finset (Fin 9)) fun h => kept A1 A2 c h.val) := by
  unfold tPost
  rw [bigSep_sep', bigSep_sep', grid_late (fun j k => rDone c k j), grid_early (fun j k => sDone c k j)]

omit [FloatOps F] [Named F] in
/-- The slots of one step, the lent shares back. -/
theorem restore (c : Dev nD) (h : ℕ) (hh : h < 9) :
    iprop(kept A1 A2 c h ∗ bigSep Finset.univ fun k : Fin 4 => onlyIf (sq k h) (sPay A1 A2 c h k))
      ⊢ iprop((P6 A1 c (sl h) fullShare ∗ onlyIf (two h) (P6 A1 c (sl (16 - h)) fullShare)) ∗ (P7 A2 c (sl h) fullShare ∗ onlyIf (two h) (P7 A2 c (sl (16 - h)) fullShare))) := by
  rw [four]
  unfold kept
  iintro ⟨⟨A, B, C, D⟩, E0, E1, E2, E3⟩
  isplitl [A C E0 E2]
  · iapply (unshare (P6 A1 c) (half6 A1 c) h hh)
    isplitl [A]; · iexact A
    isplitl [C]; · iexact C
    isplitl [E0]; · iexact E0
    iexact E2
  · iapply (unshare (P7 A2 c) (half7 A2 c) h hh)
    isplitl [B]; · iexact B
    isplitl [D]; · iexact D
    isplitl [E1]; · iexact E1
    iexact E3

omit [FloatOps F] [Named F] in
/-- Both buffers whole again. -/
theorem gather (c : Dev nD) : iprop((bigSep (Finset.univ : Finset (Fin 9)) fun h => kept A1 A2 c h.val) ∗ grid (F := F) (fun j k => sPay A1 A2 c j k))
    ⊢ iprop(((c : Thread nD τ).loc cc0_scratch0 ↦{fullShare} G6 A1 c) ∗ ((c : Thread nD τ).loc cc0_scratch1 ↦{fullShare} G7 A2 c)) := by
  rw [← grid_early (fun j k => sPay A1 A2 c j k), ← bigSep_sep']
  have e := bigSep_mono (s := (Finset.univ : Finset (Fin 9))) fun h _ => restore A1 A2 c h.val h.isLt
  refine e.trans ?_
  rw [bigSep_sep']
  have e6 := (slots_order (fun s => P6 A1 c s fullShare)).trans (whole6 A1 c)
  have e7 := (slots_order (fun s => P7 A2 c s fullShare)).trans (whole7 A2 c)
  exact BIClass.sep_mono e6 e7

omit [FloatOps F] [Named F] in
/-- The buffers' slots, all but the own ones lent. -/
theorem lend_out (c : Dev nD) : iprop((∃ f : Buf (Elt F) ((c : Thread nD τ).loc cc0_scratch0), (c : Thread nD τ).loc cc0_scratch0 ↦{fullShare} f)
      ∗ (∃ f : Buf (Elt F) ((c : Thread nD τ).loc cc0_scratch1), (c : Thread nD τ).loc cc0_scratch1 ↦{fullShare} f) ∗ grid (F := F) (fun j k => reached ER (rCell c k j) 0))
    ⊢ iprop(W6 (F := F) c (sl 0) ∗ W7 (F := F) c (sl 0) ∗ grid (F := F) (fun j k => lent (F := F) c j k)) := by
  have e6 := (slots6 (F := F) c).trans (Entails.of_eq (slots_sent _))
  have e7 := (slots7 (F := F) c).trans (Entails.of_eq (slots_sent _))
  refine (BIClass.sep_mono e6 (BIClass.sep_mono e7 (Entails.of_eq (grid_split _)))).trans ?_
  rw [lend_all]
  unfold lendL lendR
  rw [bigSep_sep', bigSep_sep', bigSep_sep', bigSep_sep', bigSep_sep', bigSep_sep', bigSep_sep', bigSep_sep']
  iintro ⟨⟨A0, AL, AR⟩, ⟨B0, BL, BR⟩, ⟨R0, R1⟩, ⟨R2, R3⟩⟩
  isplitl [A0]; · iexact A0
  isplitl [B0]; · iexact B0
  isplitl [AL BL R0 R1]
  · isplitl [AL R0]
    · isplitl [AL]; · iexact AL
      iexact R0
    isplitl [BL]; · iexact BL
    iexact R1
  · isplitl [AR R2]
    · isplitl [AR]; · iexact AR
      iexact R2
    isplitl [BR]; · iexact BR
    iexact R3

/-! ## The state around the body -/

/-- What a device enters the body with beside its buffers: its two barriers', and every transfer's. -/
def ready (c : Dev nD) : sProp 𝕄 :=
  iprop((reached ER (barCell (prv c)) 0 ∗ reached ER (barCell (nxt c)) 0 ∗ reached ER (endCell c) 0)
    ∗ (atPos ER (barCell c) 0 ∅ 0 ∗ dutyTok ER (barCell (prv c)) 0 false ∗ dutyTok ER (barCell (nxt c)) 0 true ∗ cred (tallyAt (barCell c) () 2))
    ∗ (atPos ER (endCell c) 0 ∅ 0 ∗ dutyTok ER (endCell (prv c)) 0 false ∗ dutyTok ER (endCell (nxt c)) 0 true ∗ cred (tallyAt (endCell c) () 2))
    ∗ grid (F := F) (fun j k => iprop(dutyTok ER (sCell c k j) 0 true ∗ dutyTok ER (rCell (dst c k) k j) 0 true))
    ∗ grid (F := F) (fun j k => cred (tallyAt (rCell c k j) () N))
    ∗ grid (F := F) (fun j k => iprop(atPos ER (sCell c k j) 0 ∅ 0 ∗ reached ER (sCell c k j) 0))
    ∗ grid (F := F) (fun j k => iprop(atPos ER (rCell c k j) 0 ∅ 0 ∗ reached ER (rCell c k j) 0)))
/-- What it leaves: every counter at zero. -/
def finished (c : Dev nD) : sProp 𝕄 :=
  iprop(semVal (barCell c) 0 ∗ semVal (endCell c) 0 ∗ grid (F := F) (fun j k => iprop(semVal (sCell c k j) 0 ∗ semVal (rCell c k j) 0)))

/-- The counters closed. -/
theorem close_all (κ : GSem nD τ sig → ℕ) (c : Dev nD) :
    iprop(recs A1 A2 κ ∗ atPos ER (barCell c) 1 ∅ 0 ∗ atPos ER (endCell c) 1 ∅ 0 ∗ grid (F := F) (fun j k => atPos ER (sCell c k j) 1 ∅ 0) ∗ grid (F := F) (fun j k => rDone (F := F) c k j))
      ⊢ (|={Set.univ}=> finished (F := F) c : sProp 𝕄) := by
  unfold finished
  have e : iprop(recs A1 A2 κ ∗ grid (F := F) (fun j k => iprop(atPos ER (sCell c k j) 1 ∅ 0 ∗ rDone (F := F) c k j)))
      ⊢ iprop(|={Set.univ}=> grid (F := F) (fun j k => iprop(semVal (sCell c k j) 0 ∗ semVal (rCell c k j) 0))) :=
    (grid_map fun j k h => by
      unfold rDone
      iintro ⟨#HR, Hs, Hr⟩
      imod (close A1 A2 κ (s_mem c k j h)) $$ [Hs] with Hs
      · isplitr; · iexact HR
        iexact Hs
      imod (close A1 A2 κ (r_mem c k j h)) $$ [Hr] with Hr
      · isplitr; · iexact HR
        iexact Hr
      imodintro
      isplitl [Hs]; · iexact Hs
      iexact Hr).trans (grid_upd _)
  rw [grid_sep (fun j k => atPos ER (sCell c k j) 1 ∅ 0)] at e
  iintro ⟨#HR, Hb, He, Hs, Hr⟩
  imod (close A1 A2 κ (bar_mem c)) $$ [Hb] with Hb
  · isplitr; · iexact HR
    iexact Hb
  imod (close A1 A2 κ (end_mem c)) $$ [He] with He
  · isplitr; · iexact HR
    iexact He
  imod e $$ [Hs Hr] with Hg
  · isplitr; · iexact HR
    isplitl [Hs]; · iexact Hs
    iexact Hr
  imodintro
  isplitl [Hb]; · iexact Hb
  isplitl [He]; · iexact He
  iexact Hg

/-- A load of the whole of the first operand reads it. -/
theorem fetch0 (c : Dev nD) {i0} {l0} {α : Type} {Q : α → sProp 𝕄} {KK : Vec F S256x512 .bf16 → Prog (TpuEff nD τ sig (Elt F) Λ₀ .tc) α} :
    ((c : Thread nD τ).loc cc0_stg0_0 ↦{fullShare} X : sProp 𝕄)
      ⊢ iprop((((c : Thread nD τ).loc cc0_stg0_0 ↦{fullShare} X) -∗ (wpc c) (KK X) Q)
        -∗ (wpc c) (.op (.load m0 (Rect.unit (s := S256x512) ![0, 0] S256x512.size i0).toLoadRect l0) KK) Q) := by
  iintro H0 Hk
  iapply (wp_load 𝒱₀ (c : Thread nD τ) none Set.univ (m := m0) (Finset.subset_univ _)) $$ H0; iintro H0
  rw [read0 (i := i0) X]
  iapply Hk $$ H0

/-- The body: from `ready` to `finished`, the output at the sum over all sixteen blocks. -/
theorem body_run (κ : GSem nD τ sig → ℕ) (c : Dev nD) (o : Vec F S256x512 .f32) {Q : PUnit → sProp 𝕄} :
    iprop(recs A1 A2 κ ∗ ready (F := F) c ∗ owing c 0
        ∗ ((c : Thread nD τ).loc cc0_stg0_0 ↦{fullShare} X) ∗ ((c : Thread nD τ).loc cc0_stg1_0 ↦{fullShare} A1 c) ∗ ((c : Thread nD τ).loc cc0_stg2_0 ↦{fullShare} A2 c)
        ∗ ((c : Thread nD τ).loc cc0_stg3_0 ↦{fullShare} K) ∗ ((c : Thread nD τ).loc cc0_stg4_0 ↦{fullShare} V) ∗ ((c : Thread nD τ).loc cc0_stg5_0 ↦{fullShare} o)
        ∗ (∃ f : Buf (Elt F) ((c : Thread nD τ).loc cc0_scratch0), (c : Thread nD τ).loc cc0_scratch0 ↦{fullShare} f)
        ∗ (∃ f : Buf (Elt F) ((c : Thread nD τ).loc cc0_scratch1), (c : Thread nD τ).loc cc0_scratch1 ↦{fullShare} f))
      ⊢ iprop(((finished (F := F) c ∗ owing c 34
            ∗ ((c : Thread nD τ).loc cc0_stg0_0 ↦{fullShare} X) ∗ ((c : Thread nD τ).loc cc0_stg1_0 ↦{fullShare} A1 c) ∗ ((c : Thread nD τ).loc cc0_stg2_0 ↦{fullShare} A2 c)
            ∗ ((c : Thread nD τ).loc cc0_stg3_0 ↦{fullShare} K) ∗ ((c : Thread nD τ).loc cc0_stg4_0 ↦{fullShare} V)
            ∗ ((c : Thread nD τ).loc cc0_stg5_0 ↦{fullShare} (accAt A1 A2 X K V c 9 : Vec F S256x512 .f32))
            ∗ (∃ f : Buf (Elt F) ((c : Thread nD τ).loc cc0_scratch0), (c : Thread nD τ).loc cc0_scratch0 ↦{fullShare} f)
            ∗ (∃ f : Buf (Elt F) ((c : Thread nD τ).loc cc0_scratch1), (c : Thread nD τ).loc cc0_scratch1 ↦{fullShare} f)) -∗ Q ⟨⟩)
        -∗ (wpc c) (cc0__body (F := F) m0 (Memref.isWhole_whole _) m1 (Memref.isWhole_whole _) m2 (Memref.isWhole_whole _) m3 (Memref.isWhole_whole _)
            m4 (Memref.isWhole_whole _) m5 (Memref.isWhole_whole _) q6 (Memref.isWhole_whole _) q7 (Memref.isWhole_whole _)
            cc0_scratch2 cc0_scratch3 cc0_scratch4 cc0_scratch5 cc0_scratch6 cc0_scratch7 cc0_scratch8 cc0_scratch9 cc0_scoped0) Q) := by
  rw [cc0__body_eq_skeleton]
  unfold cc0__body_skel ready
  rw [k0_part12_eq_skeleton]
  unfold k0_part12_skel
  rw [grid_sep (fun j k => dutyTok ER (sCell c k j) 0 true), grid_sep (fun j k => atPos ER (sCell c k j) 0 ∅ 0), grid_sep (fun j k => atPos ER (rCell c k j) 0 ∅ 0)]
  iintro ⟨#HR, ⟨Hkn, ⟨Hb0, Tb1, Tb2, Cb⟩, He, ⟨Ts, Tr⟩, Cr, ⟨As, Rs⟩, ⟨Ar, Rr⟩⟩, HO, H0, H1, H2, H3, H4, H5, HA, HB⟩ Hk
  ihave HL := (lend_out (F := F) c) $$ [HA HB Rr]
  · isplitl [HA]; · iexact HA
    isplitl [HB]; · iexact HB
    iexact Rr
  icases HL with ⟨W6, W7, HL⟩
  rw [wp_bind]
  iapply (enter A1 A2 κ c o) $$ [Hkn Hb0 Tb1 Tb2 Cb HL W6 W7 HO H1 H2 H5]
  · isplitr; · iexact HR
    isplitl [Hkn]; · iexact Hkn
    isplitl [Hb0 Tb1 Tb2 Cb]
    · isplitl [Hb0]; · iexact Hb0
      isplitl [Tb1]; · iexact Tb1
      isplitl [Tb2]; · iexact Tb2
      iexact Cb
    isplitl [HL]; · iexact HL
    isplitl [W6]; · iexact W6
    isplitl [W7]; · iexact W7
    isplitl [HO]; · iexact HO
    isplitl [H1]; · iexact H1
    isplitl [H2]; · iexact H2
    iexact H5
  iintro %v2 %v4 %v7 ⟨Hb, Re, HD, P6, P7, HO, H1, H2, H5⟩
  simp only [semSignalWord, semWaitWord, Prog.lift, Prog.bind_op, Prog.bind_ret, Prog.pure_eq_ret]
  simp only [dev7_eq c, dev8_eq c]
  iapply (fetch0 X c) $$ H0; iintro H0
  have esend : iprop(grid (F := F) (fun j k => dutyTok ER (sCell c k j) 0 true) ∗ grid (F := F) (fun j k => reached ER (sCell c k j) 0)
      ∗ grid (F := F) (fun j k => dutyTok ER (rCell (dst c k) k j) 0 true) ∗ grid (F := F) (fun j k => lent (F := F) (dst c k) j k)) ⊢ grid (F := F) (fun j k => sTodo (F := F) c k j) := by
    rw [← grid_sep, ← grid_sep, ← grid_sep]
    exact BI.Entails.refl _
  have erecv : iprop(grid (F := F) (fun j k => cred (tallyAt (rCell c k j) () N)) ∗ grid (F := F) (fun j k => atPos ER (rCell c k j) 0 ∅ 0)) ⊢ grid (F := F) (fun j k => rTodo (F := F) c k j) := by
    rw [← grid_sep]
    exact BI.Entails.refl _
  have egive : iprop(grid (F := F) (fun j k => sDone (F := F) c k j) ∗ grid (F := F) (fun j k => atPos ER (sCell c k j) 0 ∅ 0)) ⊢ bigSep (Finset.univ : Finset (Fin 8)) fun j => gPre (F := F) c j.val := by
    rw [← grid_sep]
    exact BI.Entails.refl _
  have eback : (bigSep (Finset.univ : Finset (Fin 8)) fun j => gPost A1 A2 c j.val) ⊢ iprop(grid (F := F) (fun j k => sPay A1 A2 c j k) ∗ grid (F := F) (fun j k => atPos ER (sCell c k j) 1 ∅ 0)) := by
    rw [← grid_sep]
    exact BI.Entails.refl _
  iapply (loop1 A1 A2 X K V κ c v2 v4 v7) $$ [Ts Rs Tr HD Cr Ar P6 P7 HO H3 H4 H5]
  · isplitr; · iexact HR
    isplitl [Ts Rs Tr HD Cr Ar P6 P7]
    · iapply (steps_in A1 A2 c)
      isplitl [Ts Rs Tr HD]
      · iapply esend
        isplitl [Ts]; · iexact Ts
        isplitl [Rs]; · iexact Rs
        isplitl [Tr]; · iexact Tr
        iexact HD
      isplitl [Cr Ar]
      · iapply erecv
        isplitl [Cr]; · iexact Cr
        iexact Ar
      isplitl [P6]; · iexact P6
      iexact P7
    isplitl [HO]; · iexact HO
    unfold data
    isplitl [H3]; · iexact H3
    isplitl [H4]; · iexact H4
    iexact H5
  iintro ⟨HT, HO, HD⟩
  unfold data
  icases HD with ⟨H3, H4, H5⟩
  ihave HT := (Entails.of_eq (steps_out A1 A2 c)) $$ HT
  icases HT with ⟨HRd, HSd, HK⟩
  iapply (loop2 A1 A2 κ c) $$ [HSd As HO]
  · isplitr; · iexact HR
    isplitl [HSd As]
    · iapply egive
      isplitl [HSd]; · iexact HSd
      iexact As
    iexact HO
  iintro ⟨HG, HO⟩
  ihave HG := eback $$ HG
  icases HG with ⟨HP, HSa⟩
  iapply (leave A1 A2 κ c) $$ [Re He HO]
  · isplitr; · iexact HR
    isplitl [Re]; · iexact Re
    isplitl [He]; · iexact He
    iexact HO
  iintro ⟨He, HO⟩
  imod (close_all A1 A2 κ c) $$ [Hb He HSa HRd] with HF
  · isplitr; · iexact HR
    isplitl [Hb]; · iexact Hb
    isplitl [He]; · iexact He
    isplitl [HSa]; · iexact HSa
    iexact HRd
  ihave HW := (gather A1 A2 c) $$ [HK HP]
  · isplitl [HK]; · iexact HK
    iexact HP
  icases HW with ⟨HA, HB⟩
  imodintro
  iapply Hk
  isplitl [HF]; · iexact HF
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [HA]; · iexists _; iexact HA
  iexists _; iexact HB

end Cert.KernelIdeal.Run
-- ==== Proof.RegionKI.lean ====
/-
  The kernel's region: its proof data, the body's obligation, and the region's record between the host stretches.
-/
module

public import proofs.«01_k».proof.Proof.BodyKI
public import Idealize.ShloMosaic.Lib.Pipeline.ValueKit

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ
local notation "wpc" c => wp frame (wpE (defs₀ (F := F)) 𝒱₀ ((c : Dev nD) : Thread nD τ) none) Set.univ

variable (m : Dev nD → Valuation τ sig (Elt F))

/-! ## The region's operands and its result -/

/-- The device's rows of the input, as the kernel reads them. -/
def in0 (c : Dev nD) : S256x512.Idx → Elt F .bf16 := m c main_v19
/-- The device's share of the first weight. -/
def in1 (c : Dev nD) : S512x256.Idx → Elt F .bf16 := m c main_arg1
/-- The device's share of the second weight. -/
def in2 (c : Dev nD) : S256x512.Idx → Elt F .bf16 := m c main_arg4
/-- The keys of the device's batches, head by head. -/
def in3 (c : Dev nD) : S64x256x64.Idx → Elt F .bf16 := m c main_v16
/-- The values of the device's batches, head by head. -/
def in4 (c : Dev nD) : S64x256x64.Idx → Elt F .bf16 := m c main_v18
/-- What the kernel leaves in its result. -/
def outD (c : Dev nD) : S256x512.Idx → Elt F .f32 := accAt (in1 m) (in2 m) (in0 m c) (in3 m c) (in4 m c) c 9

/-- The device's buffers after the region. -/
def left (c : Dev nD) : Valuation τ sig (Elt F) := Function.update (m c) (Proc.devRef .tc main_v20) (outD m c)

/-! ## The ghost state before the kernel's own cells are open -/

/-- What the launch leaves a device: the barrier's words and tokens, the tokens and credits of the transfers, and the
    rights to open the kernel's own cells. -/
def dormant (c : Dev nD) : sProp 𝕄 :=
  iprop((reached ER (barCell (prv c)) 0 ∗ reached ER (barCell (nxt c)) 0)
    ∗ (atPos ER (barCell c) 0 ∅ 0 ∗ dutyTok ER (barCell (prv c)) 0 false ∗ dutyTok ER (barCell (nxt c)) 0 true ∗ cred (tallyAt (barCell c) () 2))
    ∗ (dutyTok ER (endCell (prv c)) 0 false ∗ dutyTok ER (endCell (nxt c)) 0 true ∗ cred (tallyAt (endCell c) () 2))
    ∗ grid (F := F) (fun j k => iprop(dutyTok ER (sCell c k j) 0 true ∗ dutyTok ER (rCell (dst c k) k j) 0 true))
    ∗ grid (F := F) (fun j k => cred (tallyAt (rCell c k j) () N))
    ∗ openTok ER (endCell c) ∗ grid (F := F) (fun j k => iprop(openTok ER (sCell c k j) ∗ openTok ER (rCell c k j))))

def Tk (c : Dev nD) : sProp 𝕄 := iprop(∃ κ, recs (in1 m) (in2 m) κ ∗ dormant (F := F) c)
def Xk (c : Dev nD) : sProp 𝕄 := iprop(∃ κ, recs (in1 m) (in2 m) κ ∗ ready (F := F) c)
def Yk (c : Dev nD) : sProp 𝕄 := semVal (barCell c) 0

/-- One of the kernel's own cells, opened. -/
theorem open_one (κ : GSem nD τ sig → ℕ) {g : GSem nD τ sig} (hg : g ∈ (barCells ∪ scCells : Finset (GSem nD τ sig))) :
    iprop(recs (in1 m) (in2 m) κ ∗ openTok ER g ∗ semVal g 0) ⊢ (|={Set.univ}=> iprop(atPos ER g 0 ∅ 0 ∗ reached ER g 0) : sProp 𝕄) := by
  iintro ⟨#HR, Ho, Hs⟩
  iapply (Rounds.cell_open ER (Rd (in1 m) (in2 m)) (Set.mem_univ (κ g)))
  isplitr
  · iapply (inv_at (in1 m) (in2 m) κ hg); iexact HR
  isplitl [Ho]; · iexact Ho
  iexact Hs

/-- A send cell and a receive cell, opened. -/
theorem open_pair (κ : GSem nD τ sig → ℕ) (c : Dev nD) (j : ℕ) (k : Fin 4) (h : sq k j) :
    iprop(recs (in1 m) (in2 m) κ ∗ ((openTok ER (sCell c k j) ∗ openTok ER (rCell c k j)) ∗ semVal (sCell c k j) 0 ∗ semVal (rCell c k j) 0))
      ⊢ (|={Set.univ}=> iprop((atPos ER (sCell c k j) 0 ∅ 0 ∗ reached ER (sCell c k j) 0) ∗ atPos ER (rCell c k j) 0 ∅ 0 ∗ reached ER (rCell c k j) 0) : sProp 𝕄) := by
  iintro ⟨#HR, ⟨Os, Or⟩, Vs, Vr⟩
  imod (open_one m κ (s_mem c k j h)) $$ [Os Vs] with Hs
  · isplitr; · iexact HR
    isplitl [Os]; · iexact Os
    iexact Vs
  imod (open_one m κ (r_mem c k j h)) $$ [Or Vr] with Hr
  · isplitr; · iexact HR
    isplitl [Or]; · iexact Or
    iexact Vr
  imodintro
  isplitl [Hs]; · iexact Hs
  iexact Hr

/-- All of the kernel's own cells, opened. -/
theorem open_all (c : Dev nD) : iprop(Tk m c ∗ Pipeline.ownSems0 osem c ∗ levAts L lv) ⊢ (|={Set.univ}=> Xk m c : sProp 𝕄) := by
  unfold Pipeline.ownSems0
  rw [grid_sems (fun sm => (semVal ((c : Thread nD τ), sm) 0 : sProp 𝕄))]
  unfold Tk Xk dormant ready
  iintro ⟨⟨%κ, #HR, ⟨R1, R2⟩, Hb, ⟨E1, E2, E3⟩, Ht, Hc, Oe, Og⟩, ⟨Se, Sg⟩, -⟩
  imod (open_one m κ (end_mem c)) $$ [Oe Se] with ⟨Ae, Re⟩
  · isplitr; · iexact HR
    isplitl [Oe]; · iexact Oe
    iexact Se
  ihave Hg := (Entails.of_eq (grid_sep (F := F) (fun j k => iprop(openTok ER (sCell c k j) ∗ openTok ER (rCell c k j)))
    (fun j k => iprop(semVal (sCell c k j) 0 ∗ semVal (rCell c k j) 0))).symm) $$ [Og Sg]
  · isplitl [Og]; · iexact Og
    iexact Sg
  ihave Hg := (grid_map (R := recs (in1 m) (in2 m) κ) (fun j k h => open_pair m κ c j k h)) $$ [Hg]
  · isplitr; · iexact HR
    iexact Hg
  imod (grid_upd (F := F) (fun j k => iprop((atPos ER (sCell c k j) 0 ∅ 0 ∗ reached ER (sCell c k j) 0) ∗ atPos ER (rCell c k j) 0 ∅ 0 ∗ reached ER (rCell c k j) 0))) $$ Hg with Hg
  ihave Hg := (Entails.of_eq (grid_sep (F := F) (fun j k => iprop(atPos ER (sCell c k j) 0 ∅ 0 ∗ reached ER (sCell c k j) 0))
    (fun j k => iprop(atPos ER (rCell c k j) 0 ∅ 0 ∗ reached ER (rCell c k j) 0)))) $$ Hg
  icases Hg with ⟨Hs, Hr⟩
  imodintro
  iexists κ
  isplitr; · iexact HR
  isplitl [R1 R2 Re]
  · isplitl [R1]; · iexact R1
    isplitl [R2]; · iexact R2
    iexact Re
  isplitl [Hb]; · iexact Hb
  isplitl [Ae E1 E2 E3]
  · isplitl [Ae]; · iexact Ae
    isplitl [E1]; · iexact E1
    isplitl [E2]; · iexact E2
    iexact E3
  isplitl [Ht]; · iexact Ht
  isplitl [Hc]; · iexact Hc
  isplitl [Hs]; · iexact Hs
  iexact Hr

/-! ## The proof data -/

/-- The two exchange buffers, whole, at anything. -/
def slots (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f))

def dats (_ : Fin 1) (c : Dev nD) : Dat τ (Elt F) Unit ℕ UU ℕ cfg0 c where
  A w := m c (Proc.devRef .tc (Pipeline.arrRef spec0 w))
  after w _ := match w with
    | ⟨0, _⟩ => in0 m c
    | ⟨1, _⟩ => in1 m c
    | ⟨2, _⟩ => in2 m c
    | ⟨3, _⟩ => in3 m c
    | ⟨4, _⟩ => in4 m c
    | ⟨5, _⟩ => outD m c
    | ⟨_ + 6, h⟩ => absurd h (Nat.not_lt.2 (Nat.le_add_left _ _))
  Φ t := if t.val = 0 then iprop(Xk m c ∗ slots (F := F) c ∗ ∃ r, prngReg c r) else iprop(finished (F := F) c ∗ slots (F := F) c ∗ ∃ r, prngReg c r)
  q _ := fullShare
  owed t := if t.val = 0 then owed c 0 else 0

theorem owed_first (c : Dev nD) (p : Fin 1) (t : Fin (cfg0.N + 1)) (h : t.val = 0) : (dats m p c).owed t = owed c 0 := if_pos h
theorem owed_last (c : Dev nD) (p : Fin 1) (t : Fin (cfg0.N + 1)) (h : t.val ≠ 0) : (dats m p c).owed t = 0 := if_neg h
theorem phi_first (c : Dev nD) (p : Fin 1) (t : Fin (cfg0.N + 1)) (h : t.val = 0) :
    (dats m p c).Φ t = iprop(Xk m c ∗ slots (F := F) c ∗ ∃ r, prngReg c r) := if_pos h
theorem phi_last (c : Dev nD) (p : Fin 1) (t : Fin (cfg0.N + 1)) (h : t.val ≠ 0) :
    (dats m p c).Φ t = iprop(finished (F := F) c ∗ slots (F := F) c ∗ ∃ r, prngReg c r) := if_neg h
theorem last_ne : (Fin.last cfg0.N).val ≠ 0 := by rw [Fin.val_last, show cfg0.N = 1 from N_0]; decide

theorem owes_in (c : Dev nD) (t : Fin (cfg0.N + 1)) (h : t.val ≠ 0) :
    (owing c 34 : sProp 𝕄) ⊢ (dats m 0 c).owesAt () t := by
  unfold owing Dat.owesAt Pipeline.owesWithin Dat.bound
  rw [owed_last m c 0 t h, owed_end, show (dats m 0 c).recorded t = Set.univ from rfl]
  iintro ⟨%W, HO⟩; iexists W; isplitr; · ipureintro; exact fun _ _ => Or.inl trivial
  iexact HO
theorem owes_out (c : Dev nD) (t : Fin (cfg0.N + 1)) (h : t.val = 0) :
    ((dats m 0 c).owesAt () t : sProp 𝕄) ⊢ owing c 0 := by
  unfold owing Dat.owesAt Pipeline.owesWithin
  rw [owed_first m c 0 t h]
  iintro ⟨%W, -, HO⟩; iexists W; iexact HO

/-- A fetch of a whole array fills its staging buffer with the array, coordinate by coordinate. -/
theorem fetched_at (c : Dev nD) (w : Fin 6) (hm : ∀ j : (cfg0.win w).block.Idx, (cfg0.win w).moved (cfg0.grid.coords t0_0) j = true)
    (d : (cfg0.win w).block.Idx → Elt F (cfg0.win w).elt) (j : (cfg0.win w).block.Idx) :
    (dats m 0 c).fetched w t0_0 d j = (dats m 0 c).blockOf w t0_0 (fun a => ⟨(j a).val, ((cfg0.win w).moved_iff _ j).mp (hm j) a⟩) := by
  unfold Dat.fetched Pipeline.Window.fill
  rw [dif_pos (hm j)]

theorem uncut (w : Fin 6) (h : ∀ a, (cfg0.win w).xsize (cfg0.grid.coords t0_0) a = (cfg0.win w).block.size a) (j : (cfg0.win w).block.Idx) :
    (cfg0.win w).moved (cfg0.grid.coords t0_0) j = true :=
  ((cfg0.win w).moved_iff _ j).mpr fun a => by rw [h a]; exact (j a).isLt

theorem before0 (c : Dev nD) (d) : (dats m 0 c).before (0 : Fin 6) t0_0 d = in0 m c := by
  unfold Dat.before
  rw [if_pos (fetch0_0 t0_0)]
  funext j
  rw [fetched_at m c (0 : Fin 6) (uncut (0 : Fin 6) (by decide +kernel)) d j, Pipeline.Dat.blockOf_apply]
  show in0 m c (((cfg0.win (0 : Fin 6)).rect t0_0).emb _) = in0 m c j
  congr 1; funext a; apply Fin.ext
  rw [Pipeline.Window.rect_emb_val_of_index_zero _ _ _ ((by decide +kernel : ∀ a, (cfg0.win (0 : Fin 6)).index t0_0 a = 0) a)]
theorem before1 (c : Dev nD) (d) : (dats m 0 c).before (1 : Fin 6) t0_0 d = in1 m c := by
  unfold Dat.before
  rw [if_pos (fetch0_1 t0_0)]
  funext j
  rw [fetched_at m c (1 : Fin 6) (uncut (1 : Fin 6) (by decide +kernel)) d j, Pipeline.Dat.blockOf_apply]
  show in1 m c (((cfg0.win (1 : Fin 6)).rect t0_0).emb _) = in1 m c j
  congr 1; funext a; apply Fin.ext
  rw [Pipeline.Window.rect_emb_val_of_index_zero _ _ _ ((by decide +kernel : ∀ a, (cfg0.win (1 : Fin 6)).index t0_0 a = 0) a)]
theorem before2 (c : Dev nD) (d) : (dats m 0 c).before (2 : Fin 6) t0_0 d = in2 m c := by
  unfold Dat.before
  rw [if_pos (fetch0_2 t0_0)]
  funext j
  rw [fetched_at m c (2 : Fin 6) (uncut (2 : Fin 6) (by decide +kernel)) d j, Pipeline.Dat.blockOf_apply]
  show in2 m c (((cfg0.win (2 : Fin 6)).rect t0_0).emb _) = in2 m c j
  congr 1; funext a; apply Fin.ext
  rw [Pipeline.Window.rect_emb_val_of_index_zero _ _ _ ((by decide +kernel : ∀ a, (cfg0.win (2 : Fin 6)).index t0_0 a = 0) a)]
theorem before3 (c : Dev nD) (d) : (dats m 0 c).before (3 : Fin 6) t0_0 d = in3 m c := by
  unfold Dat.before
  rw [if_pos (fetch0_3 t0_0)]
  funext j
  rw [fetched_at m c (3 : Fin 6) (uncut (3 : Fin 6) (by decide +kernel)) d j, Pipeline.Dat.blockOf_apply]
  show in3 m c (((cfg0.win (3 : Fin 6)).rect t0_0).emb _) = in3 m c j
  congr 1; funext a; apply Fin.ext
  rw [Pipeline.Window.rect_emb_val_of_index_zero _ _ _ ((by decide +kernel : ∀ a, (cfg0.win (3 : Fin 6)).index t0_0 a = 0) a)]
theorem before4 (c : Dev nD) (d) : (dats m 0 c).before (4 : Fin 6) t0_0 d = in4 m c := by
  unfold Dat.before
  rw [if_pos (fetch0_4 t0_0)]
  funext j
  rw [fetched_at m c (4 : Fin 6) (uncut (4 : Fin 6) (by decide +kernel)) d j, Pipeline.Dat.blockOf_apply]
  show in4 m c (((cfg0.win (4 : Fin 6)).rect t0_0).emb _) = in4 m c j
  congr 1; funext a; apply Fin.ext
  rw [Pipeline.Window.rect_emb_val_of_index_zero _ _ _ ((by decide +kernel : ∀ a, (cfg0.win (4 : Fin 6)).index t0_0 a = 0) a)]

/-- A staging buffer, whole, at named contents. -/
abbrev stg (c : Dev nD) (b : Ref sig .tc) (f : Buf (Elt F) ((c : Thread nD τ).loc b)) : sProp 𝕄 := iprop((c : Thread nD τ).loc b ↦{fullShare} f)

/-- What the body's one call starts from. -/
def bodyPre (c : Dev nD) : sProp 𝕄 :=
  iprop((Xk m c ∗ slots (F := F) c ∗ ∃ r, prngReg c r) ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
/-- What it leaves. -/
def bodyPost (c : Dev nD) : sProp 𝕄 :=
  iprop((finished (F := F) c ∗ slots (F := F) c ∗ ∃ r, prngReg c r) ∗ (dats m 0 c).owesAt () t0_0.succ
    ∗ stg c cc0_stg0_0 (in0 m c) ∗ stg c cc0_stg1_0 (in1 m c) ∗ stg c cc0_stg2_0 (in2 m c) ∗ stg c cc0_stg3_0 (in3 m c) ∗ stg c cc0_stg4_0 (in4 m c) ∗ stg c cc0_stg5_0 (outD m c))

theorem body_call (c : Dev nD) : bodyPre m c ⊢ (wpc c) (cc0__body (F := F) m0 (Memref.isWhole_whole _) m1 (Memref.isWhole_whole _) m2 (Memref.isWhole_whole _) m3 (Memref.isWhole_whole _)
            m4 (Memref.isWhole_whole _) m5 (Memref.isWhole_whole _) q6 (Memref.isWhole_whole _) q7 (Memref.isWhole_whole _)
            cc0_scratch2 cc0_scratch3 cc0_scratch4 cc0_scratch5 cc0_scratch6 cc0_scratch7 cc0_scratch8 cc0_scratch9 cc0_scoped0) (fun _ => bodyPost m c) := by
  unfold bodyPre Xk slots
  iintro ⟨⟨⟨%κ, #HR, Hg⟩, ⟨HA, HB⟩, Hp⟩, HO, ⟨%d0, H0⟩, ⟨%d1, H1⟩, ⟨%d2, H2⟩, ⟨%d3, H3⟩, ⟨%d4, H4⟩, ⟨%d5, H5⟩⟩
  rw [before0 m c d0, before1 m c d1, before2 m c d2, before3 m c d3, before4 m c d4]
  ihave HO := (owes_out m c t0_0.castSucc rfl) $$ HO
  iapply (body_run (in1 m) (in2 m) (in0 m c) (in3 m c) (in4 m c) κ c ((dats m 0 c).before (5 : Fin 6) t0_0 d5)) $$ [Hg HO H0 H1 H2 H3 H4 H5 HA HB]
  · isplitr; · iexact HR
    isplitl [Hg]; · iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [HA]; · iexact HA
    iexact HB
  iintro ⟨Hf, HO, H0, H1, H2, H3, H4, H5, HA, HB⟩
  unfold bodyPost slots
  isplitl [Hf HA HB Hp]
  · isplitl [Hf]; · iexact Hf
    isplitl [HA HB]
    · isplitl [HA]; · iexact HA
      iexact HB
    iexact Hp
  isplitl [HO]; · iapply (owes_in m c t0_0.succ (by decide)); iexact HO
  isplitl [H0]; · iexact H0
  isplitl [H1]; · iexact H1
  isplitl [H2]; · iexact H2
  isplitl [H3]; · iexact H3
  isplitl [H4]; · iexact H4
  iexact H5

/-- The pipeline's obligation on the body. -/
theorem body_ok (c : Dev nD) : BodyObligation (dats m 0 c) (defs₀ (F := F)) 𝒱₀ () Set.univ := fun t => by
  rw [fin_N0 t, bigSep_W0, bigSep_W0]
  simp only [owns_whole]
  rw [phi_first m c 0 t0_0.castSucc rfl, phi_last m c 0 t0_0.succ (by decide)]
  exact body_call m c

/-! ## The region -/

theorem arr_sub : Pipeline.arrRefs (τ := τ) spec0 ⊆ Pipeline.ucRefs τ sig := by decide +kernel
theorem out_mem : (Proc.devRef .tc main_v20 : DevRef τ sig) ∈ Pipeline.arrRefs (τ := τ) spec0 := by decide +kernel
/-- The unscoped buffers the kernel does not touch. -/
abbrev others : Finset (DevRef τ sig) := Pipeline.ucRefs τ sig \ Pipeline.arrRefs (τ := τ) spec0

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_sems : Pipeline.OwnSemFacts spec0 osem := by decide +kernel
theorem staging_low : ∀ (w : Fin 6) (s : Fin ((spec0 w).nbuf)), lvS (.dma ((spec0 w).sem s)) ≤ 0 := by decide
theorem dues_high : ∀ i : Fin 34, 0 < lvS (paySem i.val) := by decide

theorem enters (c : Dev nD) : iprop(Pipeline.scopedRest spec0 c ∗ (∃ r, prngReg c r) ∗ StableHlo.held (c.tc : Thread nD τ) ∅ (m c) ∗ Xk m c) ⊢ (dats m 0 c).Φ 0 := by
  rw [phi_first m c 0 0 rfl, scopedRest0_eq]
  unfold slots
  iintro ⟨Hs, Hp, -, HX⟩
  isplitl [HX]; · iexact HX
  isplitl [Hs]; · iexact Hs
  iexact Hp

theorem leaves (c : Dev nD) (W : Valuation τ sig (Elt F)) : (dats m 0 c).Φ (Fin.last cfg0.N)
    ⊢ iprop(Pipeline.scopedRest spec0 c ∗ (∃ r, prngReg c r) ∗ StableHlo.held (c.tc : Thread nD τ) ∅ W ∗ Pipeline.ownSems0 osem c ∗ Yk (F := F) c) := by
  rw [phi_last m c 0 _ last_ne, scopedRest0_eq]
  unfold Pipeline.ownSems0
  rw [grid_sems (fun sm => (semVal ((c : Thread nD τ), sm) 0 : sProp 𝕄)), show (StableHlo.held (c.tc : Thread nD τ) ∅ W : sProp 𝕄) = BI.emp from BI.bigSep_empty]
  unfold slots finished Yk
  iintro ⟨⟨Hb, He, Hg⟩, Hs, Hp⟩
  isplitl [Hs]; · iexact Hs
  isplitl [Hp]; · iexact Hp
  isplitr; · iempintro
  isplitl [He Hg]
  · isplitl [He]; · iexact He
    iexact Hg
  iexact Hb

theorem in_stays (c : Dev nD) (w : Fin 6) (hw : (cfg0.win w).isOut = false) (hr : (Proc.devRef .tc (Pipeline.arrRef spec0 w) : DevRef τ sig) ≠ Proc.devRef .tc main_v20) :
    (dats m 0 c).arrAt w cfg0.N = left m c (Proc.devRef .tc (Pipeline.arrRef spec0 w)) :=
  ((dats m 0 c).arrAt_in w hw _).trans (Function.update_of_ne hr _ _).symm

theorem out_written (c : Dev nD) : (dats m 0 c).arrAt (5 : Fin 6) cfg0.N = (outD m c : Buf (Elt F) ((c : Thread nD τ).loc main_v20)) :=
  (dats m 0 c).arrAt_eq_of_after_last (5 : Fin 6) t0_0 (by decide +kernel) (outD m c) (fun j => rfl) (arr_whole0 5)

theorem arrays_after (c : Dev nD) (w : Fin 6) : (dats m 0 c).arrAt w cfg0.N = left m c (Proc.devRef .tc (Pipeline.arrRef spec0 w)) := by
  match w with
  | ⟨0, _⟩ => exact in_stays m c 0 rfl (by decide)
  | ⟨1, _⟩ => exact in_stays m c 1 rfl (by decide)
  | ⟨2, _⟩ => exact in_stays m c 2 rfl (by decide)
  | ⟨3, _⟩ => exact in_stays m c 3 rfl (by decide)
  | ⟨4, _⟩ => exact in_stays m c 4 rfl (by decide)
  | ⟨5, _⟩ =>
    refine (out_written m c).trans ?_
    show _ = Function.update (m c) (Proc.devRef .tc main_v20) (outD m c) (Proc.devRef .tc main_v20)
    rw [Function.update_self]
  | ⟨_ + 6, h⟩ => exact absurd h (Nat.not_lt.2 (Nat.le_add_left _ _))

theorem others_after (c : Dev nD) (b : DevRef τ sig) (hb : b ∈ others \ ∅) : left m c b = m c b :=
  Function.update_of_ne (fun e => (Finset.mem_sdiff.mp (Finset.mem_sdiff.mp hb).1).2 (by rw [e]; exact out_mem)) _ _

set_option backward.isDefEq.respectTransparency.types false in
/-- The kernel's region. -/
def reg : Pipeline.RegionSeg (pcfgs (F := F)) adm (dats m) () defs₀ 𝒱₀ L lv 0 :=
  Pipeline.RegionSeg.ofTalk (pcfgs (F := F)) adm (dats m) () defs₀ 𝒱₀ L lv 0 osem own_sems ∅ others (Finset.empty_subset _) kit rfl
    (fun c => (body_ok m c).loose)
    (fun _ => 0) (fun c => owed c 0) (fun c => (owed_first m c 0 0 rfl).trans (zero_add _).symm) (fun c => owed_last m c 0 _ last_ne) (fun _ => rfl)
    (fun c w => by unfold Dat.share; split <;> rfl)
    m (left m) (others_after m)
    (Tk m) Yk (Xk m) Yk (open_all m) (enters m) (fun c => leaves m c _)
    (fun c => by iintro H; imodintro; iexact H)
    (fun _ => 0)
    ⟨fun c w s => by rw [L_tc]; exact Finset.mem_singleton_self _, fun c w s => staging_low w s, fun c t g i h => by
      by_cases ht : t.val = 0
      · rw [owed_first m c 0 t ht] at h
        obtain ⟨n, -, hn, rfl⟩ := owed_pos c 0 g i h
        exact ⟨by unfold payCell; rw [L_tc]; exact Finset.mem_singleton_self _, dues_high ⟨n, hn⟩⟩
      · rw [owed_last m c 0 t ht] at h
        exact absurd h (Nat.lt_irrefl 0)⟩
    (fun _ => iprop(emp)) (fun _ _ => rfl) (arrays_after m)

/-- The device's state before the region, beside its buffers, and after it. -/
def E : Fin 2 → Dev nD → sProp 𝕄
  | 0 => fun c => iprop(Tk m c ∗ (∃ r, prngReg c r) ∗ ∃ W, owes (c : Thread nD τ) (owed c 0) W)
  | 1 => fun c => iprop(semVal (barCell c) 0 ∗ ∃ W, owes (c : Thread nD τ) (0 : CellTallies nD τ sig Unit) W)

theorem reg_pre (c : Dev nD) : iprop(StableHlo.held (c : Thread nD τ) (Pipeline.ucRefs τ sig) (m c) ∗ E m 0 c) ⊢ (reg m).pre c := by
  show _ ⊢ iprop(StableHlo.held (c.tc : Thread nD τ) (Pipeline.arrRefs (τ := τ) spec0) (m c) ∗ (∃ r, prngReg c r)
    ∗ (StableHlo.held (c.tc : Thread nD τ) others (m c) ∗ emp) ∗ Tk m c ∗ ∃ Wd, owes (c : Thread nD τ) (0 + owed c 0) Wd)
  rw [zero_add, StableHlo.held_sub_split (c.tc : Thread nD τ) arr_sub (m c)]
  unfold E
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_post (c : Dev nD) : (reg m).post c ⊢ iprop(StableHlo.held (c : Thread nD τ) (Pipeline.ucRefs τ sig) (left m c) ∗ E m 1 c) := by
  show iprop(StableHlo.held (c.tc : Thread nD τ) (Pipeline.arrRefs (τ := τ) spec0) (left m c) ∗ (∃ r, prngReg c r)
    ∗ (StableHlo.held (c.tc : Thread nD τ) others (left m c) ∗ emp) ∗ Yk (F := F) c ∗ ∃ Wd, owes (c : Thread nD τ) (0 : CellTallies nD τ sig Unit) Wd) ⊢ _
  rw [StableHlo.held_sub_split (c.tc : Thread nD τ) arr_sub (left m c)]
  unfold E Yk
  iintro ⟨Ha, -, ⟨Ho, -⟩, Hb, HO⟩
  isplitl [Ha Ho]
  · isplitl [Ha]; · iexact Ha
    iexact Ho
  isplitl [Hb]; · iexact Hb
  iexact HO

end Cert.KernelIdeal.Run
-- ==== Proof.RunKI.lean ====
/-
  The launch: tokens and credits dealt to the devices, the run of the whole program, and what it leaves.
-/
module

public import proofs.«01_k».proof.Proof.RegionKI

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "wpc" c => wp frame (wpE (defs₀ (F := F)) 𝒱₀ ((c : Dev nD) : Thread nD τ) none) Set.univ

/-! ## The tokens -/

/-- Duties beside the `true` ones of the kernel's own cells: both of the entry barrier, and `false` of the exit barrier. -/
abbrev restTok : Fin 3 → SemLoc sig × Bool
  | 0 => (.reg barS, false)
  | 1 => (.reg barS, true)
  | 2 => (.reg endS, false)
theorem restTok_inj : Function.Injective restTok := by decide

set_option backward.proofsInPublic true in
def ownEmb : Dev nD × KI ↪ GSem nD τ sig × ℕ × Bool :=
  ⟨fun ck => (((ck.1 : Thread nD τ), osem ck.2), 0, true), fun _ _ h =>
    Prod.ext (congrArg (fun t : GSem nD τ sig × ℕ × Bool => t.1.1.1) h) (osem_inj (congrArg (fun t : GSem nD τ sig × ℕ × Bool => t.1.2) h))⟩
set_option backward.proofsInPublic true in
def restEmb : Dev nD × Fin 3 ↪ GSem nD τ sig × ℕ × Bool :=
  ⟨fun ck => (((ck.1 : Thread nD τ), (restTok ck.2).1), 0, (restTok ck.2).2), fun _ _ h =>
    Prod.ext (congrArg (fun t : GSem nD τ sig × ℕ × Bool => t.1.1.1) h)
      (restTok_inj (Prod.ext (congrArg (fun t : GSem nD τ sig × ℕ × Bool => t.1.2) h) (congrArg (fun t : GSem nD τ sig × ℕ × Bool => t.2.2) h)))⟩
abbrev ownToks : Finset (GSem nD τ sig × ℕ × Bool) := Finset.univ.map ownEmb
abbrev restToks : Finset (GSem nD τ sig × ℕ × Bool) := Finset.univ.map restEmb
/-- Every duty's token. -/
abbrev allToks : Finset (GSem nD τ sig × ℕ × Bool) := ownToks ∪ restToks

theorem tok_ne : ∀ (k : KI) (i : Fin 3), (osem k, true) ≠ restTok i := by decide +kernel
theorem disjoint_toks : Disjoint ownToks restToks := by
  rw [Finset.disjoint_left]
  rintro x h₁ h₂
  obtain ⟨ck, -, rfl⟩ := Finset.mem_map.mp h₁
  obtain ⟨ci, -, h⟩ := Finset.mem_map.mp h₂
  exact tok_ne ck.2 ci.2 (Prod.ext (congrArg (fun t : GSem nD τ sig × ℕ × Bool => t.1.2) h).symm (congrArg (fun t : GSem nD τ sig × ℕ × Bool => t.2.2) h).symm)

/-- The tokens of a device's own cells. -/
def toksOf (c : Dev nD) : sProp 𝕄 :=
  iprop((dutyTok ER (endCell c) 0 true ∗ grid (F := F) (fun j k => iprop(dutyTok ER (sCell c k j) 0 true ∗ dutyTok ER (rCell c k j) 0 true)))
    ∗ dutyTok ER (barCell c) 0 false ∗ dutyTok ER (barCell c) 0 true ∗ dutyTok ER (endCell c) 0 false)

omit [FloatOps F] [Named F] in
theorem toks_eq : (bigSep allToks fun x => (dutyTok ER x.1 x.2.1 x.2.2 : sProp 𝕄)) = bigSep Finset.univ fun c : Dev nD => toksOf c := by
  rw [BI.bigSep_union disjoint_toks, bigSep_map, bigSep_map, bigSep_univ_prod, bigSep_univ_prod]
  refine (bigSep_sep' (s := Finset.univ) _ _).symm.trans (bigSep_congr fun c _ => ?_)
  unfold toksOf
  have e₁ : (bigSep Finset.univ fun k : KI => (dutyTok ER (ownEmb (c, k)).1 (ownEmb (c, k)).2.1 (ownEmb (c, k)).2.2 : sProp 𝕄)) = _ :=
    grid_sems (fun sm => (dutyTok ER ((c : Thread nD τ), sm) 0 true : sProp 𝕄))
  have e₂ : (bigSep Finset.univ fun i : Fin 3 => (dutyTok ER (restEmb (c, i)).1 (restEmb (c, i)).2.1 (restEmb (c, i)).2.2 : sProp 𝕄)) = _ :=
    bigSep_univ_eq_bigSepL [0, 1, 2] (by decide) (by decide) _
  rw [e₁, e₂]
  rfl

/-- The tokens of the duties a device pays. -/
def toksFor (c : Dev nD) : sProp 𝕄 :=
  iprop((dutyTok ER (endCell (nxt c)) 0 true ∗ grid (F := F) (fun j k => iprop(dutyTok ER (sCell c k j) 0 true ∗ dutyTok ER (rCell (dst c k) k j) 0 true)))
    ∗ dutyTok ER (barCell (prv c)) 0 false ∗ dutyTok ER (barCell (nxt c)) 0 true ∗ dutyTok ER (endCell (prv c)) 0 false)

omit [FloatOps F] [Named F] in
theorem to_nxt (Φ : Dev nD → sProp 𝕄) : bigSep Finset.univ Φ = bigSep Finset.univ fun c => Φ (nxt c) := bigSep_univ_equiv ring Φ
omit [FloatOps F] [Named F] in
theorem to_prv (Φ : Dev nD → sProp 𝕄) : bigSep Finset.univ Φ = bigSep Finset.univ fun c => Φ (prv c) := bigSep_univ_equiv ring.symm Φ
omit [FloatOps F] [Named F] in
theorem to_peer (d : Bool) (Φ : Dev nD → sProp 𝕄) : bigSep Finset.univ Φ = bigSep Finset.univ fun c => Φ (peer c d) := by
  cases d
  · exact to_prv Φ
  · exact to_nxt Φ

omit [FloatOps F] [Named F] in
/-- A resource of every receive cell, handed to the device that fills the cell. -/
theorem grid_around (Φ : Dev nD → ℕ → Fin 4 → sProp 𝕄) :
    (bigSep Finset.univ fun c : Dev nD => grid (F := F) (Φ c)) = bigSep Finset.univ fun c : Dev nD => grid (F := F) (fun j k => Φ (dst c k) j k) := by
  unfold grid
  rw [bigSep_univ_comm, bigSep_univ_comm (fun (c : Dev nD) (j : Fin 8) => bigSep Finset.univ fun k : Fin 4 => onlyIf (sq k j.val) (Φ (dst c k) j.val k))]
  refine bigSep_congr fun j _ => ?_
  rw [bigSep_univ_comm, bigSep_univ_comm (fun (c : Dev nD) (k : Fin 4) => onlyIf (sq k j.val) (Φ (dst c k) j.val k))]
  exact bigSep_congr fun k _ => to_peer (decide (k.val < 2)) fun c => onlyIf (sq k j.val) (Φ c j.val k)

omit [FloatOps F] [Named F] in
/-- The tokens, dealt to the devices that pay the duties. -/
theorem toks_around : (bigSep Finset.univ fun c : Dev nD => (toksOf c : sProp 𝕄)) = bigSep Finset.univ fun c : Dev nD => toksFor c := by
  unfold toksOf toksFor
  simp only [grid_sep, bigSep_sep']
  rw [to_nxt (fun c => dutyTok ER (endCell c) 0 true), to_prv (fun c => dutyTok ER (barCell c) 0 false), to_nxt (fun c => dutyTok ER (barCell c) 0 true),
    to_prv (fun c => dutyTok ER (endCell c) 0 false), grid_around (fun c j k => dutyTok ER (rCell c k j) 0 true)]

/-! ## The credit -/

theorem peer_back (d c : Dev nD) (b : Bool) : c = peer d b ↔ d = peer c (!b) := by
  cases b
  · exact ⟨fun h => by rw [h]; exact (nxt_prv d).symm, fun h => by rw [h]; exact (prv_nxt c).symm⟩
  · exact ⟨fun h => by rw [h]; exact (prv_nxt d).symm, fun h => by rw [h]; exact (nxt_prv c).symm⟩

/-- What all the devices owe one cell. -/
theorem owed_all (c : Dev nD) (sm : SemLoc sig) :
    (∑ d : Dev nD, owed d 0 ((c : Thread nD τ), sm) ()) = ∑ i ∈ Finset.Ico 0 34, if paySem i = sm then amt sm else 0 := by
  have e : ∀ d : Dev nD, owed d 0 ((c : Thread nD τ), sm) () = ∑ i ∈ Finset.Ico 0 34, if d = peer c (!payDir i) then (if paySem i = sm then amt sm else 0) else 0 := fun d => by
    unfold owed
    rw [Finset.sum_apply, Finsupp.finset_sum_apply]
    refine Finset.sum_congr rfl fun i _ => ?_
    rw [tallyAt_apply]
    unfold payCell
    by_cases h1 : d = peer c (!payDir i)
    · rw [if_pos h1]
      have h1' := (peer_back d c (payDir i)).mpr h1
      by_cases h2 : paySem i = sm
      · rw [if_pos h2, if_pos ⟨by rw [← h1', h2], rfl⟩, h2]
      · rw [if_neg h2, if_neg fun h => h2 (congrArg Prod.snd h.1).symm]
    · rw [if_neg h1, if_neg fun h => h1 ((peer_back d c (payDir i)).mp (congrArg (fun g : GSem nD τ sig => g.1.1) h.1))]
  rw [Finset.sum_congr rfl fun d _ => e d, Finset.sum_comm]
  refine Finset.sum_congr rfl fun i _ => ?_
  rw [Finset.sum_ite_eq' Finset.univ (peer c (!payDir i)) fun _ => _, if_pos (Finset.mem_univ _)]

theorem credit_cell (c : Dev nD) (sm : SemLoc sig) (n : ℕ) (h : (∑ i ∈ Finset.Ico 0 34, if paySem i = sm then amt sm else 0) = n) :
    tallyOn ((c : Thread nD τ), sm) (launchCredit (Pipeline.owing fun d => owed d 0) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, owed_all, h]

theorem count_bar : (∑ i ∈ Finset.Ico 0 34, if paySem i = SemLoc.reg barS then amt (SemLoc.reg barS) else 0) = 2 := by decide +kernel
theorem count_end : (∑ i ∈ Finset.Ico 0 34, if paySem i = SemLoc.reg endS then amt (SemLoc.reg endS) else 0) = 2 := by decide +kernel
theorem count_one : ∀ (j : Fin 8) (k : Fin 4), sq k j.val → ((Finset.Ico 0 34).filter fun i => paySem i = SemLoc.dma (rS k j.val)).card = 1 := by decide +kernel
theorem count_r (j : ℕ) (k : Fin 4) (h : sq k j) : (∑ i ∈ Finset.Ico 0 34, if paySem i = SemLoc.dma (rS k j) then amt (SemLoc.dma (rS k j)) else 0) = N := by
  rw [← Finset.sum_filter, Finset.sum_const, count_one ⟨j, Nat.lt_of_lt_of_le h (cnt_le k)⟩ k h, one_smul]
  rfl

omit [FloatOps F] [Named F] in
theorem creds (c : Dev nD) : (Pipeline.launchCred (fun d => owed d 0) c : sProp 𝕄)
    ⊢ iprop(cred (tallyAt (barCell c) () 2) ∗ cred (tallyAt (endCell c) () 2) ∗ grid (F := F) fun j k => cred (tallyAt (rCell c k j) () N)) := by
  unfold Pipeline.launchCred
  have hs : (Finset.univ.map ⟨osem, osem_inj⟩ : Finset (SemLoc sig)) ⊆ Finset.univ.erase (SemLoc.reg barS) := fun x hx => by
    obtain ⟨k, -, rfl⟩ := Finset.mem_map.mp hx
    exact Finset.mem_erase.mpr ⟨osem_ne_bar k, Finset.mem_univ _⟩
  rw [bigSep_univ_at _ (SemLoc.reg barS), credit_cell c _ 2 count_bar]
  refine sep_mono_right ((bigSep_subset hs).trans ?_)
  rw [bigSep_map]
  refine (Entails.of_eq (grid_sems (fun sm => (cred (tallyOn ((c : Thread nD τ), sm) (launchCredit (Pipeline.owing fun d => owed d 0) 0 ((c : Thread nD τ), sm))) : sProp 𝕄)))).trans ?_
  rw [credit_cell c _ 2 count_end]
  refine sep_mono_right (grid_mono fun j k h => ?_)
  rw [credit_cell c _ N (count_r j k h)]
  iintro ⟨-, H⟩; iexact H

/-! ## The launch -/

variable (m : (ℓ : Loc nD τ sig) → Buf (Elt F) ℓ) (ρ : Dev nD → PrngReg)

/-- The buffers a device enters the region with. -/
def entry (c : Dev nD) : Valuation τ sig (Elt F) := V1 m c
/-- The result buffer at what the kernel leaves; the others are not read. -/
def outs : Outs (F := F) := fun _ r c => if h : r = main_v20 then h ▸ (outD (entry m) c : Buf (Elt F) ((c : Thread nD τ).loc main_v20)) else m ((c : Thread nD τ).loc r)
theorem outs_eq (n : ℕ) (c : Dev nD) : outs m n main_v20 c = (outD (entry m) c : Buf (Elt F) ((c : Thread nD τ).loc main_v20)) := dif_pos rfl
theorem left_eq (c : Dev nD) : V2 m (outs m) c = left (entry m) c := by
  show Function.update (entry m c) (Proc.devRef .tc main_v20) (outs m 2 main_v20 c) = Function.update (entry m c) (Proc.devRef .tc main_v20) (outD (entry m) c)
  rw [outs_eq]

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- A resource kept with device 0 until it is dealt. -/
def onFirst (P : sProp (𝕄)) (c : Dev nD) : sProp 𝕄 := if c = 0 then P else iprop(emp)
omit [FloatOps F] [Named F] in
theorem onFirst_all (P : sProp (𝕄)) : bigSep Finset.univ (onFirst P) = P := by
  have e : bigSep (Finset.univ.erase (0 : Dev nD)) (onFirst P) = bigSep (Finset.univ.erase (0 : Dev nD)) fun _ => (BI.emp : sProp 𝕄) :=
    bigSep_congr fun c hc => if_neg (Finset.ne_of_mem_erase hc)
  rw [bigSep_univ_at _ (0 : Dev nD), e, BI.bigSep_emp_const]
  unfold onFirst
  rw [if_pos rfl]
  exact BI.equiv_iff.mp sep_emp
def G : Dev nD → sProp 𝕄 := onFirst (BI.own (ER (launchOf barCells scCells allToks)))

omit [FloatOps F] [Named F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- The records every device may consult, with the word that every entry barrier's cell is open. -/
def records (κ : GSem nD τ sig → ℕ) : sProp 𝕄 := iprop(recs (in1 (entry m)) (in2 (entry m)) κ ∗ bigSep barCells fun g => reached ER g 0)
instance records_persistent (κ : GSem nD τ sig → ℕ) : BI.Persistent (records m κ) := by unfold records; infer_instance

omit [FloatOps F] [Named F] in
theorem reached_at (c : Dev nD) : (bigSep barCells fun g => (reached ER g 0 : sProp 𝕄)) ⊢ reached ER (barCell c) 0 :=
  bigSep_elim (Finset.mem_map_of_mem barEmb (Finset.mem_univ c))

/-- What a device takes of the launch, beside the records. -/
def share (c : Dev nD) : sProp 𝕄 :=
  iprop(atPos ER (barCell c) 0 ∅ 0 ∗ (openTok ER (endCell c) ∗ grid (F := F) (fun j k => iprop(openTok ER (sCell c k j) ∗ openTok ER (rCell c k j)))) ∗ toksFor (F := F) c)
/-- What it holds besides. -/
def held₀ (c : Dev nD) : sProp 𝕄 :=
  iprop(Pipeline.launchCred (fun d => owed d 0) c ∗ owes (c : Thread nD τ) (owed c 0) ∅ ∗ prngReg c (ρ c))

theorem entry_state (κ : GSem nD τ sig → ℕ) (c : Dev nD) : iprop(records m κ ∗ (share (F := F) c ∗ held₀ (F := F) ρ c)) ⊢ E (entry m) 0 c := by
  unfold records share held₀ toksFor E Tk dormant
  iintro ⟨⟨#HR, #Hr⟩, ⟨Hat, ⟨Oe, Og⟩, ⟨Te2, Tg⟩, Tb1, Tb2, Te1⟩, Hc, HO, Hp⟩
  ihave Hc := (creds (F := F) c) $$ Hc
  icases Hc with ⟨Cb, Ce, Cg⟩
  isplitr [HO Hp]
  · iexists κ
    isplitr; · iexact HR
    isplitr
    · isplitr; · iapply (reached_at (F := F) (prv c)); iexact Hr
      iapply (reached_at (F := F) (nxt c)); iexact Hr
    isplitl [Hat Tb1 Tb2 Cb]
    · isplitl [Hat]; · iexact Hat
      isplitl [Tb1]; · iexact Tb1
      isplitl [Tb2]; · iexact Tb2
      iexact Cb
    isplitl [Te1 Te2 Ce]
    · isplitl [Te1]; · iexact Te1
      isplitl [Te2]; · iexact Te2
      iexact Ce
    isplitl [Tg]; · iexact Tg
    isplitl [Cg]; · iexact Cg
    isplitl [Oe]; · iexact Oe
    iexact Og
  isplitl [Hp]; · iexists (ρ c); iexact Hp
  iexists ∅; iexact HO

omit [FloatOps F] [Named F] in
/-- A resource of two parts on every device is the one part on every device and the other. -/
theorem sep_dist {Φ Ψ : Dev nD → sProp 𝕄} : (bigSep Finset.univ fun c => iprop(Φ c ∗ Ψ c)) = iprop(bigSep Finset.univ Φ ∗ bigSep Finset.univ Ψ) :=
  bigSep_sep' (s := Finset.univ) Φ Ψ

/-- The launch, all devices at once. -/
theorem init :
    iprop((bigSep Finset.univ fun c : Dev nD => iprop(unscopedBufs c (fun b => m ((c.tc : Thread nD τ).loc b)) ∗ unscopedSems0 c
          ∗ owes (c.tc : Thread nD τ) (owed c 0) ∅ ∗ Pipeline.launchCred (fun d => owed d 0) c ∗ prngReg c (ρ c) ∗ G (F := F) c)) ∗ levAts L lv)
      ⊢ (|={Set.univ}=> bigSep Finset.univ fun c : Dev nD => iprop(StableHlo.held (c : Thread nD τ) (Pipeline.ucRefs τ sig) (V0 m c) ∗ E (entry m) 0 c) : sProp 𝕄) := by
  have hcore (c : Dev nD) : iprop(unscopedBufs c (fun b => m ((c.tc : Thread nD τ).loc b)) ∗ unscopedSems0 c
          ∗ owes (c.tc : Thread nD τ) (owed c 0) ∅ ∗ Pipeline.launchCred (fun d => owed d 0) c ∗ prngReg c (ρ c) ∗ G (F := F) c)
      ⊢ (iprop(StableHlo.held (c : Thread nD τ) (Pipeline.ucRefs τ sig) (V0 m c) ∗ (held₀ (F := F) ρ c ∗ (semVal (barCell c) 0 ∗ G (F := F) c))) : sProp 𝕄) := by
    rw [← Pipeline.unscopedBufs_held (Ix := Unit) (Name := ℕ) (U := UU) (Lvl := ℕ) c (V0 m c), unscopedSems0_eq]
    unfold held₀
    iintro ⟨Hh, Hus, HO, Hcr, Hp, HG⟩
    isplitl [Hh]; · iexact Hh
    isplitl [HO Hcr Hp]
    · isplitl [Hcr]; · iexact Hcr
      isplitl [HO]; · iexact HO
      iexact Hp
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => iprop(openTok ER (endCell c) ∗ grid (F := F) (fun j k => iprop(openTok ER (sCell c k j) ∗ openTok ER (rCell c k j))))) :=
    Entails.of_eq (by
      rw [bigSep_map, bigSep_univ_prod]
      exact bigSep_congr fun c _ => grid_sems (fun sm => (openTok ER ((c : Thread nD τ), sm) : sProp 𝕄)))
  have hsplit : (bigSep Finset.univ fun c : Dev nD => iprop(unscopedBufs c (fun b => m ((c.tc : Thread nD τ).loc b)) ∗ unscopedSems0 c
          ∗ owes (c.tc : Thread nD τ) (owed c 0) ∅ ∗ Pipeline.launchCred (fun d => owed d 0) c ∗ prngReg c (ρ c) ∗ G (F := F) c))
      ⊢ (iprop((bigSep Finset.univ fun c : Dev nD => StableHlo.held (c : Thread nD τ) (Pipeline.ucRefs τ sig) (V0 m c))
          ∗ (bigSep Finset.univ fun c : Dev nD => held₀ (F := F) ρ c)
          ∗ (bigSep Finset.univ fun c : Dev nD => (semVal (barCell c) 0 : sProp 𝕄)) ∗ bigSep Finset.univ (G (F := F))) : sProp 𝕄) := by
    rw [← sep_dist, ← sep_dist, ← sep_dist]
    exact bigSep_mono fun c _ => hcore c
  have hG : bigSep Finset.univ (G (F := F)) ⊢ BI.own (ER (launchOf barCells scCells allToks)) :=
    Entails.of_eq (onFirst_all (F := F) (BI.own (ER (launchOf barCells scCells allToks))))
  have htok : (bigSep allToks fun x => (dutyTok ER x.1 x.2.1 x.2.2 : sProp 𝕄)) ⊢ bigSep Finset.univ fun c : Dev nD => toksFor (F := F) c :=
    Entails.of_eq ((toks_eq (F := F)).trans (toks_around (F := F)))
  have hshare : iprop((bigSep Finset.univ (fun c : Dev nD => (atPos ER (barCell c) 0 ∅ 0 : sProp 𝕄)))
      ∗ (bigSep Finset.univ fun c : Dev nD => iprop(openTok ER (endCell c) ∗ grid (F := F) (fun j k => iprop(openTok ER (sCell c k j) ∗ openTok ER (rCell c k j)))))
      ∗ bigSep Finset.univ fun c : Dev nD => toksFor (F := F) c) ⊢ bigSep Finset.univ fun c : Dev nD => share (F := F) c := by
    rw [← sep_dist, ← sep_dist]
    exact BI.Entails.refl _
  have hall (κ : GSem nD τ sig → ℕ) : iprop(records m κ ∗ (bigSep Finset.univ fun c : Dev nD => share (F := F) c) ∗ bigSep Finset.univ fun c : Dev nD => held₀ (F := F) ρ c)
      ⊢ bigSep Finset.univ fun c : Dev nD => E (entry m) 0 c := by
    rw [← sep_dist]
    exact bigSep_with_persistent (R := records m κ) (Φ := fun c => iprop(share (F := F) c ∗ held₀ (F := F) ρ c)) fun c _ => entry_state m ρ κ c
  have hgoal : iprop((bigSep Finset.univ fun c : Dev nD => StableHlo.held (c : Thread nD τ) (Pipeline.ucRefs τ sig) (V0 m c)) ∗ bigSep Finset.univ fun c : Dev nD => E (entry m) 0 c)
      ⊢ (bigSep Finset.univ fun c : Dev nD => iprop(StableHlo.held (c : Thread nD τ) (Pipeline.ucRefs τ sig) (V0 m c) ∗ E (entry m) 0 c) : sProp 𝕄) :=
    Entails.of_eq sep_dist.symm
  iintro ⟨H, #Hlev⟩
  ihave H' := hsplit $$ H
  icases H' with ⟨HB, Hh, Hv, HG⟩
  ihave Hu := hG $$ HG
  imod (Rounds.fund_launch ER (Rd (in1 (entry m)) (in2 (entry m))) disjoint_cells (fun g _ h => h) allToks) $$ [Hv Hu] with ⟨%κ, -, #Hinv, #Hr, Hat, Hopen, Htok⟩
  · isplitl [Hv]
    · iapply hv $$ Hv
    · iexact Hu
  imodintro
  iapply hgoal
  isplitl [HB]; · iexact HB
  iapply (hall κ)
  isplitr
  · unfold records recs
    isplitr
    · isplitr; · iexact Hinv
      iexact Hlev
    iexact Hr
  isplitr [Hh]
  · iapply hshare
    isplitl [Hat]; · iapply hat $$ Hat
    isplitl [Hopen]; · iapply hopen $$ Hopen
    iapply htok $$ Htok
  · iexact Hh

end Cert.KernelIdeal.Run
-- ==== Proof.EndKI.lean ====
/-
  The run of the whole program: every execution ends, with what it leaves in the buffers and the counters.
-/
module

public import proofs.«01_k».proof.Proof.RunKI

@[expose] public section
set_option maxRecDepth 65536

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "wpc" c => wp frame (wpE (defs₀ (F := F)) 𝒱₀ ((c : Dev nD) : Thread nD τ) none) Set.univ

variable (m : (ℓ : Loc nD τ sig) → Buf (Elt F) ℓ) (ρ : Dev nD → PrngReg)

/-! ## The run -/

theorem unscoped_eq : ∀ sm : SemLoc sig, sm.isScoped .tc = false → sm = .reg barS := by decide +kernel

/-- What the launch's last state says of one device. -/
def done (c : Dev nD) : sProp 𝕄 := iprop(StableHlo.held (c : Thread nD τ) (Pipeline.ucRefs τ sig) (V3 m (outs m) c) ∗ semVal (barCell c) 0)

theorem last_state (c : Dev nD) : iprop(StableHlo.held (c : Thread nD τ) (Pipeline.ucRefs τ sig) (V3 m (outs m) c) ∗ E (entry m) 1 c)
    ⊢ iprop(done m c ∗ ∃ W, owes (c.tc : Thread nD τ) (0 : CellTallies nD τ sig Unit) W) := by
  unfold E done
  iintro ⟨Hh, Hb, HO⟩
  isplitl [Hh Hb]
  · isplitl [Hh]; · iexact Hh
    iexact Hb
  iexact HO

theorem uc_mem (r : Ref sig .tc) (h : ¬ (Proc.devRef (τ := τ) .tc r).isScoped = true) : (Proc.devRef .tc r : DevRef τ sig) ∈ Pipeline.ucRefs τ sig :=
  Finset.mem_filter.mpr ⟨StableHlo.devRef_mem_tcRefs r, h⟩

/-- What the run leaves on a device: the arguments as launched, the result, the entry barrier's counter at zero. -/
def Left (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1)
    ∧ s.mem ((c.tc : Thread nD τ).loc main_arg2) = m ((c.tc : Thread nD τ).loc main_arg2) ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v21) = V3 m (outs m) c main_v21 ∧ s.sem (barCell c) = 0

theorem read_off (c : Dev nD) (s' : Phys nD τ sig (Elt F)) : iprop(done m c ∗ SI s') ⊢ (|={Set.univ}=> iprop(⌜Left m c s'.mem⌝ ∗ SI s') : sProp 𝕄) := by
  unfold done StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨(h _ (uc_mem main_arg0 (by decide))).trans (V3_main_arg0 m (outs m) c), (h _ (uc_mem main_arg1 (by decide))).trans (V3_main_arg1 m (outs m) c),
      (h _ (uc_mem main_arg2 (by decide))).trans (V3_main_arg2 m (outs m) c), (h _ (uc_mem main_arg3 (by decide))).trans (V3_main_arg3 m (outs m) c),
      (h _ (uc_mem main_arg4 (by decide))).trans (V3_main_arg4 m (outs m) c)⟩, h _ (uc_mem main_v21 (by decide)), by simpa using hb⟩
  iexact HSI

theorem pre_ok (c : Dev nD) : iprop(StableHlo.held (c : Thread nD τ) (Pipeline.ucRefs τ sig) (V1 m c) ∗ E (entry m) 0 c) ⊢ (reg (entry m)).pre c := reg_pre (entry m) c
theorem post_ok (c : Dev nD) : (reg (entry m)).post c ⊢ iprop(StableHlo.held (c : Thread nD τ) (Pipeline.ucRefs τ sig) (V2 m (outs m) c) ∗ E (entry m) 1 c) := by
  rw [left_eq]; exact reg_post (entry m) c

set_option backward.isDefEq.respectTransparency.types false in
/-- The run of the whole program, from any record of its one region: the host operations before it, the region, the reshape after it. -/
theorem run_of (o : Outs (F := F)) (pdats : (p : Fin 1) → (c : Dev nD) → Pipeline.Dat τ (Elt F) Unit ℕ UU ℕ (cfgs p) c)
    (O₀ : Dev nD → CellTallies nD τ sig Unit) (G : Dev nD → sProp 𝕄) (u : UU)
    (hu : (ownU u : sProp 𝕄) ⊢ |={Set.univ}=> iprop(BI.own (EP (initOf (Pipeline.cells (Pipeline.pin (pcfgs (F := F)) adm) cellOf_inj) (Pipeline.launchToks (Pipeline.pin (pcfgs (F := F)) adm) cellOf_inj))) ∗ bigSep Finset.univ G))
    (E : Fin 2 → Dev nD → sProp 𝕄) (R₀ : Pipeline.RegionSeg (pcfgs (F := F)) adm pdats () defs₀ 𝒱₀ L lv 0)
    (hpre : ∀ c : Dev nD, iprop(StableHlo.held (c : Thread nD τ) (Pipeline.ucRefs τ sig) (V1 m c) ∗ E 0 c) ⊢ R₀.pre c)
    (hpost : ∀ c : Dev nD, R₀.post c ⊢ iprop(StableHlo.held (c : Thread nD τ) (Pipeline.ucRefs τ sig) (V2 m o c) ∗ E 1 c))
    (T : Dev nD → sProp 𝕄)
    (hlast : ∀ c : Dev nD, iprop(StableHlo.held (c : Thread nD τ) (Pipeline.ucRefs τ sig) (V3 m o c) ∗ E 1 c) ⊢ iprop(T c ∗ ∃ W, owes (c.tc : Thread nD τ) (0 : CellTallies nD τ sig Unit) W))
    (hinit : iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E 0 c) : sProp 𝕄))
    (Y : Dev nD → MemSt nD τ sig (Elt F) → Prop)
    (hfin : ∀ (c : Dev nD) (s' : Phys nD τ sig (Elt F)), iprop(T c ∗ SI s') ⊢ (|={Set.univ}=> iprop(⌜Y c s'.mem⌝ ∗ SI s') : sProp 𝕄)) :
    θ_run defs (onTc (τ := τ) (main (F := F))) ⟨m, fun _ => 0, ρ⟩ (fun r => (∀ c : Dev nD, Y c r.2)
      ∧ ∀ g' : GSem nD τ sig, (g'.1.2 ≠ .tc ∨ g'.2.isScoped .tc = true) → r.2.sem g' = 0) :=
  Pipeline.θ_run_regions_kit_dev_sems (pcfgs (F := F)) adm pdats () cellOf_inj EP defs₀ 𝒱₀ L lv m ρ main
    (segs m o 𝒱₀ L lv E () pdats R₀)
    (fun c Q => by
      rewrite [main_chain c, Pipeline.Seg.run_eq_chain,
        show (segs m o 𝒱₀ L lv E () pdats R₀ c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ L_of_ne G u hu
    (T₀ := fun c => iprop(StableHlo.held (c : Thread nD τ) (Pipeline.ucRefs τ sig) (V0 m c) ∗ E 0 c))
    (Tₙ := T) (hch := fun c => ⟨.rfl, hpre c, hpost c, hlast c⟩)
    (hinit := hinit) (QY := Y) (hfin := hfin) (hQ := fun _ h hs => ⟨h, hs⟩)

theorem launch_own : (ownU (u₀ (F := F)) : sProp 𝕄) ⊢ |={Set.univ}=> iprop(BI.own (EP (initOf (Pipeline.cells (Pipeline.pin (pcfgs (F := F)) adm) cellOf_inj) (Pipeline.launchToks (Pipeline.pin (pcfgs (F := F)) adm) cellOf_inj))) ∗ bigSep Finset.univ (G (F := F))) := by
  unfold u₀ G
  rw [onFirst_all]
  iintro Hu
  ihave H := (ownU_pair _ _) $$ Hu
  icases H with ⟨HP, HX⟩
  imodintro
  isplitl [HP]; · iexact HP
  iexact HX

/-- Every run from a memory with zero counters ends, with the arguments as launched, the result the kernel's reshaped, and
    every counter at zero. -/
theorem run_main : θ_run defs (onTc (τ := τ) (main (F := F))) ⟨m, fun _ => 0, ρ⟩ (fun r => (∀ c : Dev nD, Left m c r.2) ∧ r.2.sem = fun _ => 0) :=
  (θ_run defs _ _).mono (fun _ h => ⟨h.1, sem_eq_zero h.2 fun c sm hsm => by
      obtain rfl := unscoped_eq sm hsm
      exact (h.1 c).2.2⟩)
    (run_of m ρ (outs m) (dats (entry m)) (fun c => owed c 0) (G (F := F)) u₀ launch_own (E (entry m)) (reg (entry m)) (pre_ok m) (post_ok m)
      (done m) (last_state m) (init m ρ) (Left m) (read_off m))

end Cert.KernelIdeal.Run
-- ==== Proof.FramesKI.lean ====
/-
  The claims that need no arithmetic: the three programs' frames, and the one rewrite between the kernel and its idealization.
-/
module

public import proofs.«01_k».proof.Defs
public import proofs.«01_k».proof.Proof.EndKI
public import proofs.«01_k».proof.Proof.EndK
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

/-- Every run of the kernel over words ends with its arguments unchanged and its counters at zero. -/
theorem kernel : Cert.quiescent_Kernel := fun m g _ =>
  (θ_run _ _ _).mono (fun _ h => ⟨fun c => (h.1 c).1, h.2⟩) (Cert.Kernel.Run.run_main (F := Bits) m g)

/-- Every run of the idealized kernel ends with its arguments unchanged and its counters at zero. -/
theorem ideal : Cert.quiescent_KernelIdeal := fun m g _ =>
  (θ_run _ _ _).mono (fun _ h => ⟨fun c => (h.1 c).1, h.2⟩) (Cert.KernelIdeal.Run.run_main (F := Ideal) m g)

/-- Every run of the reference ends with its arguments unchanged; it has no counters. -/
theorem reference : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The masked scores' constant is named, and the name stands for minus infinity. -/
theorem preserved : Cert.preserves_Kernel_KernelIdeal :=
  IdealRules.named_const.statement Cert.KernelIdeal.κ "mask" .f32 0xCE6E6B28#32 ⊥ rfl

end Cert.Frames
-- ==== Proof.Soft.lean ====
/-
  Softmax attention over the extended reals, with no program in it: what the reference's formula says at one element, and that a row
  of scores of which all but one block are minus infinity weighs that block alone.
-/
module

public import Idealize.ShloMosaic.Lib.Pointwise
public import Idealize.ShloMosaic.PureOps.Ideal

@[expose] public section

noncomputable section

namespace Cert.Attn

open Idealize.ShloMosaic

/-- The scores' factor 1/8 and the bottom the maximum starts from, as the programs write them. -/
abbrev eighth : EReal := Ideal.ofBits .f32 0x3E000000#32
abbrev low : EReal := Ideal.ofBits .f32 0xFF800000#32

/-- The maximum of a row of scores, the exponential of each score's distance to it, the weights, and the values they weigh. -/
def top {n : ℕ} (s : Fin n → EReal) : EReal := Finset.fold max low s Finset.univ
def ex {n : ℕ} (s : Fin n → EReal) (j : Fin n) : EReal := Ideal.exp (s j - top s)
def weight {n : ℕ} (s : Fin n → EReal) (j : Fin n) : EReal := Ideal.div (ex s j) (∑ i, ex s i)
def att {n : ℕ} (s v : Fin n → EReal) : EReal := ∑ j, weight s j * v j

/-- The pattern is minus infinity's. -/
theorem low_eq : low = ⊥ := by simp [low, Ideal.ofBits, Ideal.ieee]

/-- The maximum is the least upper bound. -/
theorem top_eq {n : ℕ} (s : Fin n → EReal) : top s = Finset.univ.sup s := by
  unfold top; rw [low_eq]; rfl

/-- An extended real that is a real number. -/
def Real' (x : EReal) : Prop := ∃ r : ℝ, x = r

/-- Products of real numbers are real, -/
theorem Real'.mul {x y : EReal} : Real' x → Real' y → Real' (x * y) := by
  rintro ⟨a, rfl⟩ ⟨b, rfl⟩; exact ⟨a * b, by norm_cast⟩

/-- and so are their finite sums, -/
theorem Real'.sum {n : ℕ} {f : Fin n → EReal} (h : ∀ i, Real' (f i)) : Real' (∑ i, f i) := by
  refine Finset.sum_induction f Real' ?_ ⟨0, rfl⟩ fun i _ => h i
  rintro _ _ ⟨a, rfl⟩ ⟨b, rfl⟩; exact ⟨a + b, by norm_cast⟩

/-- and the scale. -/
theorem eighth_real : Real' eighth := by
  have h : eighth = ((1 / 8 : ℝ) : EReal) := by
    simp only [eighth, Ideal.ofBits, Ideal.ieee]
    simp
    rw [← EReal.coe_mul]; norm_num
  exact ⟨_, h⟩

/-- What is smaller than plus infinity in absolute value is real. -/
theorem real_of_lt {x : EReal} (h : max x (-x) < ⊤) : Real' x := by
  induction x using EReal.rec with
  | bot => simp at h
  | top => simp at h
  | coe r => exact ⟨r, rfl⟩

/-- Exponentials are not negative. -/
theorem exp_nonneg (x : EReal) : 0 ≤ Ideal.exp x := by
  induction x using EReal.rec with
  | bot => exact le_refl _
  | top => exact le_top
  | coe r => exact EReal.coe_nonneg.mpr (Real.exp_pos r).le

/-- Where every score is a real number the weights' divisor is not zero. -/
theorem total_ne {n : ℕ} (u : Fin (n + 1) → EReal) (hu : ∀ j, Real' (u j)) : (∑ i, ex u i) ≠ 0 := by
  obtain ⟨j, -, hj⟩ := Finset.exists_mem_eq_sup (Finset.univ : Finset (Fin (n + 1))) Finset.univ_nonempty u
  have h1 : ex u j = 1 := by
    obtain ⟨r, hr⟩ := hu j
    unfold ex; rw [top_eq, hj, hr, ← EReal.coe_sub, sub_self]
    change ((Real.exp 0 : ℝ) : EReal) = 1
    simp
  have h2 : ex u j ≤ ∑ i, ex u i := Finset.single_le_sum (f := fun i => ex u i) (fun i _ => exp_nonneg _) (Finset.mem_univ j)
  intro h; rw [h, h1] at h2
  exact absurd h2 (by norm_num)

section Block
variable {n N : ℕ} (g : Fin (n + 1) ↪ Fin N) (s : Fin N → EReal) (u : Fin (n + 1) → EReal)
  (hin : ∀ j, s (g j) = u j) (hout : ∀ j, (∀ i, g i ≠ j) → s j = ⊥)
include hin hout

/-- The row's maximum is the block's. -/
theorem top_block : top s = top u := by
  rw [top_eq, top_eq]
  refine le_antisymm (Finset.sup_le fun j _ => ?_) (Finset.sup_le fun j _ => ?_)
  · by_cases h : ∃ i, g i = j
    · obtain ⟨i, rfl⟩ := h; rw [hin]; exact Finset.le_sup (Finset.mem_univ i)
    · rw [hout j fun i hi => h ⟨i, hi⟩]; exact bot_le
  · rw [← hin]; exact Finset.le_sup (Finset.mem_univ (g j))

/-- On the block the exponentials are the block's own, -/
theorem ex_in (j : Fin (n + 1)) : ex s (g j) = ex u j := by unfold ex; rw [top_block g s u hin hout, hin]
/-- and off it they are zero. -/
theorem ex_out (j : Fin N) (h : ∀ i, g i ≠ j) : ex s j = 0 := by
  unfold ex; rw [hout j h, EReal.bot_sub]; rfl

omit hin hout in
/-- A sum whose terms vanish off the block. -/
theorem sum_block (f : Fin N → EReal) (hf : ∀ j, (∀ i, g i ≠ j) → f j = 0) : ∑ j, f j = ∑ i, f (g i) := by
  rw [← Finset.sum_map Finset.univ g f]
  refine (Finset.sum_subset (Finset.subset_univ _) fun j _ hj => hf j fun i hi => hj ?_).symm
  exact Finset.mem_map.mpr ⟨i, Finset.mem_univ i, hi⟩

/-- A row whose scores are real numbers on one block and minus infinity elsewhere weighs the values of that block by that block's own
weights: the other positions get weight 0 and add nothing. -/
theorem att_block (hu : ∀ j, Real' (u j)) (v : Fin N → EReal) : att s v = att u fun j => v (g j) := by
  have hS : ∑ j, ex s j = ∑ i, ex u i :=
    (sum_block g _ fun j h => ex_out g s u hin hout j h).trans (Finset.sum_congr rfl fun i _ => ex_in g s u hin hout i)
  unfold att
  refine (sum_block g _ fun j h => ?_).trans (Finset.sum_congr rfl fun i _ => ?_)
  · have : weight s j = 0 := by
      unfold weight; rw [ex_out g s u hin hout j h, hS, Ideal.div, if_neg (total_ne u hu), zero_mul]
    rw [this, zero_mul]
  · unfold weight; rw [ex_in g s u hin hout, hS]
end Block

/-! ## The reference's formula at one element -/

section Spec
variable (x : Shape.Idx ⟨3, ![32, 128, 512]⟩ → EReal) (Wq : Shape.Idx ⟨2, ![512, 4096]⟩ → EReal)
  (K V : Shape.Idx ⟨4, ![32, 128, 64, 64]⟩ → EReal) (Wo : Shape.Idx ⟨2, ![4096, 512]⟩ → EReal)

/-- Column `d` of head `h` among the model's columns. -/
def col (h d : Fin 64) : Fin 4096 := ⟨h.val * 64 + d.val, by omega⟩

/-- The scaled score of query `i` and key `j` of batch `B` at head `h`. -/
def score (B : Fin 32) (i : Fin 128) (h : Fin 64) (j : Fin 128) : EReal :=
  (∑ t : Fin 64, (∑ a : Fin 512, x (ix3 B i a) * Wq (ix2 a (col h t))) * K (ix4 B j h t)) * eighth

/-- Head `h`'s share of the result's element. -/
def headOut (B : Fin 32) (i : Fin 128) (e : Fin 512) (h : Fin 64) : EReal :=
  ∑ d : Fin 64, att (score x Wq K B i h) (fun j => V (ix4 B j h d)) * Wo (ix2 (col h d) e)

/-- A sum over the model's columns, head by head. -/
theorem sum_cols (f : Fin 4096 → EReal) : ∑ c, f c = ∑ h : Fin 64, ∑ d : Fin 64, f (col h d) := by
  rw [← Fintype.sum_prod_type']
  refine (Fintype.sum_equiv (finProdFinEquiv (m := 64) (n := 64)) _ _ fun p => ?_).symm
  congr 1; apply Fin.ext; simp [col, finProdFinEquiv]; ring
end Spec

end Cert.Attn

end
-- ==== Proof.ValueKI.lean ====
/-
  The kernel's output over the extended reals, at one element: the sum over the ring's slots, hence over all the heads, of the
  reference's formula.
-/
module

public import proofs.«01_k».proof.Proof.Soft
public import proofs.«01_k».proof.Proof.ComputeKI
public import Idealize.ShloMosaic.PureOps.IdealRules

@[expose] public section
set_option maxRecDepth 16384

noncomputable section

namespace Cert.KernelIdeal.Run

open Cert.KernelIdeal Cert.KernelIdeal.Gen Cert.Attn
open Idealize.ShloMosaic

/-! ## The bias -/

/-- The number of a row's batch, as the program computes it in words, is the row over 128; -/
theorem rowWord (n j : Fin 256) : k0_pay36 (ix2 n j) = BitVec.ofNat 32 (n.val / 128) := by
  pointwise [k0_pay36]
  revert n; decide +kernel

/-- so is that of a column's, whose floor correction never applies. -/
theorem colWord (n j : Fin 256) : select k0_pay38 (subi k0_pay37 (broadcast S256x256 1#32)) k0_pay37 (ix2 n j) = BitVec.ofNat 32 (j.val / 128) := by
  pointwise [k0_pay38, k0_pay37]
  revert j; decide +kernel

/-- The bias is zero where query and key are of one batch, minus infinity elsewhere. -/
theorem bias_at (n j : Fin 256) : (bias (F := Ideal) : Shape.Idx ⟨2, ![256, 256]⟩ → EReal) (ix2 n j) = if n.val / 128 = j.val / 128 then 0 else ⊥ := by
  have h : (bias (F := Ideal)) (ix2 n j) = Scalar.select (IntOp.cmpi .eq (k0_pay36 (ix2 n j)) (select k0_pay38 (subi k0_pay37 (broadcast S256x256 1#32)) k0_pay37 (ix2 n j)))
      (Scalar.ofBits (F := Ideal) .f32 0x00000000#32) (Named.named κ "mask" 0xCE6E6B28#32) := rfl
  rw [h, rowWord, colWord]
  have hm : (Named.named κ "mask" 0xCE6E6B28#32 : Ideal .f32) = (⊥ : EReal) := rfl
  rw [hm]
  have hz : (Scalar.ofBits (F := Ideal) .f32 0x00000000#32 : EReal) = 0 := Ideal.ofBits_zero_f32
  rw [hz]
  have hw : ∀ a b : Fin 2, Scalar.select (IntOp.cmpi .eq (BitVec.ofNat 32 a.val) (BitVec.ofNat 32 b.val)) (0 : EReal) ⊥ = if a.val = b.val then 0 else ⊥ := by
    intro a b; fin_cases a <;> fin_cases b <;> rfl
  exact hw ⟨n.val / 128, by omega⟩ ⟨j.val / 128, by omega⟩

/-! ## One head, one slot -/

/-- Column `t` of a block's head `r`. -/
def lcol (r : Fin 4) (t : Fin 64) : Fin 256 := ⟨r.val * 64 + t.val, by omega⟩

/-- One head's output at an element: the softmax of its row of scores weighs the values, and the output weights project them. -/
theorem head_at (b : FVec Ideal S256x256 .f32) (qh : FVec Ideal S256x64 .bf16) (k v : Vec Ideal S1x256x64 .bf16) (wo : FVec Ideal S64x512 .bf16) (n : Fin 256) (e : Fin 512) :
    (headAcc b qh k v wo : Shape.Idx ⟨2, ![256, 512]⟩ → EReal) (ix2 n e)
      = ∑ d : Fin 64, att (fun j : Fin 256 => (∑ t : Fin 64, (qh (ix2 n t) : EReal) * k (ix3 0 j t)) * eighth + b (ix2 n j)) (fun j => v (ix3 0 j d)) * (wo (ix2 d e) : EReal) := by
  pointwise [headAcc]
  rfl

/-- One slot's update at an element: its four heads are added. -/
theorem slot_at (b : FVec Ideal S256x256 .f32) (x : FVec Ideal S256x512 .bf16) (w6 : Vec Ideal S1x512x256 .bf16) (w7 : Vec Ideal S1x256x512 .bf16)
    (kk vv : Fin 4 → Vec Ideal S1x256x64 .bf16) (o : Vec Ideal S256x512 .f32) (n : Fin 256) (e : Fin 512) :
    (slotUpd b x w6 w7 (kk 0) (vv 0) (kk 1) (vv 1) (kk 2) (vv 2) (kk 3) (vv 3) o : Shape.Idx ⟨2, ![256, 512]⟩ → EReal) (ix2 n e)
      = (o (ix2 n e) : EReal) + ∑ r : Fin 4, ∑ d : Fin 64, att (fun j : Fin 256 => (∑ t : Fin 64, (∑ a : Fin 512, (x (ix2 n a) : EReal) * w6 (ix3 0 a (lcol r t))) * kk r (ix3 0 j t)) * eighth + b (ix2 n j))
          (fun j => vv r (ix3 0 j d)) * (w7 (ix3 0 (lcol r d) e) : EReal) := by
  rw [Fin.sum_univ_four]
  pointwise [slotUpd]
  simp only [head_at]
  pointwise
  simp only [lcol, Fin.isValue, Fin.val_zero, Fin.val_one, Fin.val_two, Nat.zero_mul, Nat.zero_add, Nat.one_mul, Nat.reduceMul]
  rfl

/-! ## The ring's slots -/

section Step
variable (A1 : Dev nD → S512x256.Idx → Elt Ideal .bf16) (A2 : Dev nD → S256x512.Idx → Elt Ideal .bf16)
  (X : S256x512.Idx → Elt Ideal .bf16) (K V : S64x256x64.Idx → Elt Ideal .bf16)

/-- The heads of device `o`'s blocks. -/
def ghd (o : Dev nD) (r : Fin 4) : Fin 64 := ⟨o.val * 4 + r.val, by have h1 := o.isLt; have h2 := r.isLt; change _ < 16 at h1; omega⟩

/-- What the blocks of device `o` add to an element of the output. -/
def contrib (n : Fin 256) (e : Fin 512) (o : Dev nD) (r : Fin 4) : EReal :=
  ∑ d : Fin 64, att (fun j : Fin 256 => (∑ t : Fin 64, (∑ a : Fin 512, (X (ix2 n a) : EReal) * A1 o (ix2 a (lcol r t))) * K (ix3 (ghd o r) j t)) * eighth
      + (bias (F := Ideal) (ix2 n j) : EReal)) (fun j => V (ix3 (ghd o r) j d)) * (A2 o (ix2 (lcol r d) e) : EReal)

/-- Slot `s` holds the query weights of the device `s` places to the left, -/
theorem slab6_at (c : Dev nD) (s : Fin 16) (a : Fin 512) (t : Fin 256) : slab6 A1 c s (ix3 0 a t) = A1 (org c s) (ix2 a t) := by
  have h : (rect6 s).emb (ix3 0 a t) = ix3 s a t :=
    Shape.idx3_ext (d := ![16, 512, 256]) (show s.val + 1 * 0 = s.val by omega) (show 0 + 1 * a.val = a.val by omega) (show 0 + 1 * t.val = t.val by omega)
  have h' : slab6 A1 c s (ix3 0 a t) = G6 A1 c ((rect6 s).emb (ix3 0 a t)) := rfl
  rw [h', h]
  exact congrArg (A1 (org c s)) (eq_ix2 _)
/-- and its output weights. -/
theorem slab7_at (c : Dev nD) (s : Fin 16) (a : Fin 256) (t : Fin 512) : slab7 A2 c s (ix3 0 a t) = A2 (org c s) (ix2 a t) := by
  have h : (rect7 s).emb (ix3 0 a t) = ix3 s a t :=
    Shape.idx3_ext (d := ![16, 256, 512]) (show s.val + 1 * 0 = s.val by omega) (show 0 + 1 * a.val = a.val by omega) (show 0 + 1 * t.val = t.val by omega)
  have h' : slab7 A2 c s (ix3 0 a t) = G7 A2 c ((rect7 s).emb (ix3 0 a t)) := rfl
  rw [h', h]
  exact congrArg (A2 (org c s)) (eq_ix2 _)

/-- Where head `h` stands among the keys and the values. -/
theorem embH (h : Fin 64) (j : Fin 256) (t : Fin 64) : (rectH h).emb (ix3 0 j t) = ix3 h j t :=
  Shape.idx3_ext (d := ![64, 256, 64]) (show h.val + 1 * 0 = h.val by omega) (show 0 + 1 * j.val = j.val by omega) (show 0 + 1 * t.val = t.val by omega)
/-- The keys of head `h`, -/
theorem rowK_at (h : Fin 64) (j : Fin 256) (t : Fin 64) : rowK K h (ix3 0 j t) = K (ix3 h j t) := congrArg K (embH h j t)
/-- and its values. -/
theorem rowV_at (h : Fin 64) (j : Fin 256) (t : Fin 64) : rowV V h (ix3 0 j t) = V (ix3 h j t) := congrArg V (embH h j t)

/-- A slot's step adds what its owner's four heads contribute. -/
theorem step_at (c : Dev nD) (s : Fin 16) (o : Vec Ideal S256x512 .f32) (n : Fin 256) (e : Fin 512) :
    (stepOut A1 A2 X K V c s o : Shape.Idx ⟨2, ![256, 512]⟩ → EReal) (ix2 n e) = (o (ix2 n e) : EReal) + ∑ r, contrib A1 A2 X K V n e (org c s) r := by
  refine (slot_at bias (k0_pay2 X) (slab6 A1 c s) (slab7 A2 c s) (fun r => rowK K (hd c s r)) (fun r => rowV V (hd c s r)) o n e).trans ?_
  have hX : ∀ a, k0_pay2 X (ix2 n a) = X (ix2 n a) := fun a => by pointwise [k0_pay2]
  simp only [slab6_at, slab7_at, rowK_at, rowV_at, hX]
  rfl

omit A1 A2 X K V in
/-- A sum over the sixteen slots, written out. -/
theorem sum16 (f : Fin 16 → EReal) : ∑ s, f s = (f 0 + f 1 + f 2 + f 3 + f 4 + f 5 + f 6 + f 7) + (f 8 + f 9 + f 10 + f 11 + f 12 + f 13 + f 14 + f 15) := by
  rw [Fin.sum_univ_add (a := 8) (b := 8) f, Fin.sum_univ_eight, Fin.sum_univ_eight]; rfl

/-- The slots are visited each once, in the order of their arrival, -/
theorem acc_at (c : Dev nD) (n : Fin 256) (e : Fin 512) :
    (accAt A1 A2 X K V c 9 : Shape.Idx ⟨2, ![256, 512]⟩ → EReal) (ix2 n e) = ∑ s : Fin 16, ∑ r, contrib A1 A2 X K V n e (org c s) r := by
  have h0 : (k0_pay35 (F := Ideal) : Shape.Idx ⟨2, ![256, 512]⟩ → EReal) (ix2 n e) = 0 := by pointwise [k0_pay35]
  change _ = ∑ s, (fun s => ∑ r, contrib A1 A2 X K V n e (org c s) r) s
  generalize hf : (fun s => ∑ r, contrib A1 A2 X K V n e (org c s) r) = f
  have hs : ∀ s o, (stepOut A1 A2 X K V c s o : Shape.Idx ⟨2, ![256, 512]⟩ → EReal) (ix2 n e) = (o (ix2 n e) : EReal) + f s :=
    fun s o => by rw [step_at, ← hf]
  rw [sum16]
  simp [accAt, hs, h0]
  change f 0 + f 1 + f 15 + f 2 + f 14 + f 3 + f 13 + f 4 + f 12 + f 5 + f 11 + f 6 + f 10 + f 7 + f 9 + f 8 = _
  ac_rfl

omit A1 A2 X K V in
/-- and hold the blocks of all the devices: together they are the sum over all the heads. -/
theorem sum_slots (c : Dev nD) (f : Fin 64 → EReal) : ∑ s : Fin 16, ∑ r, f (ghd (org c s) r) = ∑ h, f h := by
  have hb : Function.Bijective (org c) := by
    rw [Finite.injective_iff_bijective.symm]
    revert c; decide +kernel
  rw [hb.sum_comp (fun o => ∑ r, f (ghd o r))]
  rw [← Fintype.sum_prod_type']
  refine Fintype.sum_equiv (finProdFinEquiv (m := 16) (n := 4)) _ _ fun p => ?_
  congr 1; apply Fin.ext; simp [ghd, finProdFinEquiv]; ring

/-! ## The output, from the whole arrays -/

/-- Row `i` of the local batch `b` among the device's rows, and the batch it is of the whole. -/
def row (b : Fin 2) (i : Fin 128) : Fin 256 := ⟨b.val * 128 + i.val, by omega⟩
def bat (c : Dev nD) (b : Fin 2) : Fin 32 := ⟨c.val * 2 + b.val, by have h1 := c.isLt; change _ < 16 at h1; omega⟩
def rows (b : Fin 2) : Fin 128 ↪ Fin 256 := ⟨row b, fun i j h => Fin.ext (by have := congrArg Fin.val h; simp only [row] at this; omega)⟩

variable (x : Shape.Idx ⟨3, ![32, 128, 512]⟩ → EReal) (Wq : Shape.Idx ⟨2, ![512, 4096]⟩ → EReal)
  (Kx Vx : Shape.Idx ⟨4, ![32, 128, 64, 64]⟩ → EReal) (Wo : Shape.Idx ⟨2, ![4096, 512]⟩ → EReal)

/-- On device `c` the output's element is the reference's, if the blocks and copies the device works on are those of the whole arrays
and no factor of a score is infinite. -/
theorem out_at (c : Dev nD)
    (hX : ∀ b i a, (X (ix2 (row b i) a) : EReal) = x (ix3 (bat c b) i a))
    (h1 : ∀ o a r t, (A1 o (ix2 a (lcol r t)) : EReal) = Wq (ix2 a (col (ghd o r) t)))
    (h2 : ∀ o r d e, (A2 o (ix2 (lcol r d) e) : EReal) = Wo (ix2 (col (ghd o r) d) e))
    (hK : ∀ h b j t, (K (ix3 h (row b j) t) : EReal) = Kx (ix4 (bat c b) j h t))
    (hV : ∀ h b j t, (V (ix3 h (row b j) t) : EReal) = Vx (ix4 (bat c b) j h t))
    (fx : ∀ b i a, Real' (x (ix3 (bat c b) i a))) (fq : ∀ i, Real' (Wq i)) (fk : ∀ i, Real' (Kx i)) (b : Fin 2) (i : Fin 128) (e : Fin 512) :
    (accAt A1 A2 X K V c 9 : Shape.Idx ⟨2, ![256, 512]⟩ → EReal) (ix2 (row b i) e) = ∑ h, headOut x Wq Kx Vx Wo (bat c b) i e h := by
  rw [acc_at, ← sum_slots c]
  refine Finset.sum_congr rfl fun s _ => Finset.sum_congr rfl fun r _ => ?_
  unfold contrib headOut
  refine Finset.sum_congr rfl fun d _ => ?_
  rw [h2, att_block (rows b) _ (score x Wq Kx (bat c b) i (ghd (org c s) r)) (fun j => ?_) (fun j hj => ?_) (fun j => ?_)]
  · congr 1
    unfold att
    refine Finset.sum_congr rfl fun j _ => ?_
    exact congrArg (_ * ·) (hV _ b j d)
  · change (∑ t, (∑ a, (X (ix2 (row b i) a) : EReal) * _) * K (ix3 _ (row b j) t)) * eighth + (bias (F := Ideal) (ix2 (row b i) (row b j)) : EReal) = _
    rw [bias_at, if_pos (by simp only [row]; omega), add_zero]
    simp only [hX, h1, hK]
    rfl
  · rw [bias_at, if_neg, EReal.add_bot]
    intro h
    have h' : (b.val * 128 + i.val) / 128 = j.val / 128 := h
    refine hj ⟨j.val % 128, by omega⟩ (Fin.ext ?_)
    change b.val * 128 + j.val % 128 = j.val
    omega
  · exact (Real'.sum fun _ => (Real'.sum fun _ => (fx _ _ _).mul (fq _)).mul (fk _)).mul eighth_real

end Step

end Cert.KernelIdeal.Run

end
-- ==== Proof.HostKI.lean ====
/-
  What the host's operations around the launch bring to it and make of its result: the device's two batches of keys and values, head
  by head, its rows of the input, and the result cut into the two batches.
-/
module

public import proofs.«01_k».proof.Proof.ValueKI
public import proofs.«01_k».proof.Proof.Gen.KernelIdeal.Regions
public import Idealize.ShloMosaic.Lib.StableHlo
public import Idealize.ShloMosaic.Lib.Tactic.CleanTypes
public import Idealize.ShloMosaic.Lib.StableHlo.RunClose

@[expose] public section
set_option maxRecDepth 16384

noncomputable section

namespace Cert.KernelIdeal.Run

open Cert.KernelIdeal Cert.KernelIdeal.Gen
open Idealize.ShloMosaic Idealize.ShloMosaic.StableHlo
open Idealize.ShloMosaic.TcCoe

variable (W : Valuation τ sig (Elt Ideal)) (c : Dev nD)

/-- The launch's input: the device's batches one after the other. -/
theorem host19 : after (hostOps0 c) W main_v19 = shapeCast S256x512 (W main_arg0) shapeCasts_S2x128x512_S256x512 := by
  simp only [hostOps0]
  after_results_simp
  rfl

omit W in
/-- Two batches cut out of the whole keys or values, head by head. -/
theorem cut_at (A : Shape.Idx ⟨4, ![32, 128, 64, 64]⟩ → EReal) (z : Fin 4 → Int) (hz : z = ![2 * (c.val : Int), 0, 0, 0]) (h : Fin 64) (b : Fin 2) (j : Fin 128) (t : Fin 64) :
    (shapeCast S64x256x64 (transpose S64x2x128x64 [2, 0, 1, 3] (Host.dynamicSlice S2x128x64x64 A z sliceFits_S32x128x64x64_S2x128x64x64)
      transposes_S2x128x64x64_S64x2x128x64_2_0_1_3) shapeCasts_S64x2x128x64_S64x256x64 : Shape.Idx ⟨3, ![64, 256, 64]⟩ → EReal) (ix3 h (row b j) t)
    = A (ix4 (bat c b) j h t) := by
  subst hz
  have hc := c.isLt
  change c.val < 16 at hc
  have e0 : (row b j).val / 128 = b.val := by simp only [row]; omega
  have e1 : (row b j).val % 128 = j.val := by simp only [row]; omega
  pointwise [Host.clampedStart]
  refine congrArg A ((ix4_inj _ _ _ _ _ _ _ _).mpr ⟨?_, ?_, ?_, ?_⟩) <;> apply Fin.ext
  · change (min (max (2 * (c.val : Int)) 0) 30).toNat + (row b j).val / 128 = c.val * 2 + b.val
    omega
  · change (min (max (0 : Int) 0) 0).toNat + (row b j).val % 128 = j.val
    omega
  · change (min (max (0 : Int) 0) 0).toNat + h.val = h.val
    omega
  · change (min (max (0 : Int) 0) 0).toNat + t.val = t.val
    omega

omit W in
/-- The first of the device's batches: twice its number, which is never negative. -/
theorem first_batch : (Scalar.select (IntOp.cmpi CmpIPredicate.slt (IntOp.muli (IntOp.remui .host (IntOp.divui .host (Dev.word c) 1#32) 16#32) 2#32) 0#32)
    (IntOp.addi (IntOp.muli (IntOp.remui .host (IntOp.divui .host (Dev.word c) 1#32) 16#32) 2#32) 32#32)
    (IntOp.muli (IntOp.remui .host (IntOp.divui .host (Dev.word c) 1#32) 16#32) 2#32)).toInt = 2 * (c.val : Int) := by
  revert c; decide +kernel

/-- The launch's keys: head by head the device's two batches of the whole. -/
theorem host16 (h : Fin 64) (b : Fin 2) (j : Fin 128) (t : Fin 64) : (after (hostOps0 c) W main_v16 : Shape.Idx ⟨3, ![64, 256, 64]⟩ → EReal) (ix3 h (row b j) t)
    = (W main_arg2 : Shape.Idx ⟨4, ![32, 128, 64, 64]⟩ → EReal) (ix4 (bat c b) j h t) := by
  simp only [hostOps0]
  after_results_simp_entrywise
  refine cut_at c _ _ (funext fun k => ?_) h b j t
  fin_cases k
  · exact first_batch c
  · rfl
  · rfl
  · rfl

/-- The launch's values. -/
theorem host18 (h : Fin 64) (b : Fin 2) (j : Fin 128) (t : Fin 64) : (after (hostOps0 c) W main_v18 : Shape.Idx ⟨3, ![64, 256, 64]⟩ → EReal) (ix3 h (row b j) t)
    = (W main_arg3 : Shape.Idx ⟨4, ![32, 128, 64, 64]⟩ → EReal) (ix4 (bat c b) j h t) := by
  simp only [hostOps0]
  after_results_simp_entrywise
  refine cut_at c _ _ (funext fun k => ?_) h b j t
  fin_cases k
  · exact first_batch c
  · rfl
  · rfl
  · rfl

/-- The launch's rows of the input. -/
theorem host19_at (b : Fin 2) (i : Fin 128) (a : Fin 512) : (after (hostOps0 c) W main_v19 : Shape.Idx ⟨2, ![256, 512]⟩ → EReal) (ix2 (row b i) a)
    = (W main_arg0 : Shape.Idx ⟨3, ![2, 128, 512]⟩ → EReal) (ix3 b i a) := by
  rw [host19]
  pointwise
  refine congrArg _ ((ix3_inj _ _ _ _ _ _).mpr ⟨Fin.ext ?_, Fin.ext ?_, rfl⟩)
  · change (b.val * 128 + i.val) / 128 = b.val
    omega
  · change (b.val * 128 + i.val) % 128 = i.val
    omega

omit c in
/-- The result: the launch's, cut into the device's two batches. -/
theorem host21_at (b : Fin 2) (i : Fin 128) (e : Fin 512) : (after hostOps1 W main_v21 : Shape.Idx ⟨3, ![2, 128, 512]⟩ → EReal) (ix3 b i e)
    = (W main_v20 : Shape.Idx ⟨2, ![256, 512]⟩ → EReal) (ix2 (row b i) e) := by
  have h : after hostOps1 W main_v21 = shapeCast S2x128x512 (W main_v20) shapeCasts_S256x512_S2x128x512 := by
    simp only [hostOps1]
    after_results_simp
    rfl
  rw [h]
  pointwise
  rfl

end Cert.KernelIdeal.Run

end
-- ==== Proof.RefValue.lean ====
/-
  The reference's result at one element: its mask lets every pair through, so what is left is the softmax attention's formula.
-/
module

public import proofs.«01_k».proof.Proof.Soft
public import proofs.«01_k».proof.Proof.Gen.ReferenceIdeal.Run
public import Idealize.ShloMosaic.Lib.Tactic.CleanTypes

@[expose] public section
set_option maxRecDepth 16384

noncomputable section

namespace Cert.ReferenceIdeal.Value

open Cert.ReferenceIdeal Cert.ReferenceIdeal.Gen Cert.Attn
open Idealize.ShloMosaic

/-- Positions below 128 are never more than 128 apart: the mask's bit is one at every pair. -/
theorem mask_one (i j : Fin 128) : ∀ b : BitVec 1, IntOp.ori (IntOp.cmpi CmpIPredicate.sle (IntOp.absi (IntOp.subi (BitVec.ofNat 32 i.val) (BitVec.ofNat 32 j.val))) 128#32) b = 1#1 := by
  have h : ∀ i j : Fin 128, IntOp.cmpi CmpIPredicate.sle (IntOp.absi (IntOp.subi (BitVec.ofNat 32 i.val) (BitVec.ofNat 32 j.val))) 128#32 = 1#1 := by
    decide +kernel
  rw [h]; decide

/-- Every row has a pair that is let through. -/
theorem any_one : Finset.fold IntOp.ori (0#1) (fun _ : Fin 128 => 1#1) Finset.univ = 1#1 := by decide +kernel

variable (m : (ℓ : Loc nD τ sig) → Buf (Elt Ideal) ℓ) (c : Dev nD)

/-- The head of a column and its place in the head. -/
def headOf (f : Fin 4096) : Fin 64 := ⟨f.val / 64, by omega⟩
def dimOf (f : Fin 4096) : Fin 64 := ⟨f.val % 64, by omega⟩

/-- Column `d` of head `h` is of head `h`, -/
theorem headOf_col (h d : Fin 64) : headOf (col h d) = h := Fin.ext (by simp only [headOf, col]; omega)
/-- and at place `d`. -/
theorem dimOf_col (h d : Fin 64) : dimOf (col h d) = d := Fin.ext (by simp only [dimOf, col]; omega)

/-- The result at an element, as one sum over the model's columns. -/
theorem result_cols (B : Fin 32) (i : Fin 128) (e : Fin 512) :
    (res_main_v47 m c : Shape.Idx ⟨3, ![32, 128, 512]⟩ → EReal) (ix3 B i e)
      = ∑ f : Fin 4096, att (score (m ((c.tc : Thread nD τ).loc main_arg0)) (m ((c.tc : Thread nD τ).loc main_arg1)) (m ((c.tc : Thread nD τ).loc main_arg2)) B i (headOf f))
          (fun j => (m ((c.tc : Thread nD τ).loc main_arg3) : Shape.Idx ⟨4, ![32, 128, 64, 64]⟩ → EReal) (ix4 B j (headOf f) (dimOf f)))
          * (m ((c.tc : Thread nD τ).loc main_arg4) : Shape.Idx ⟨2, ![4096, 512]⟩ → EReal) (ix2 f e) := by
  unfold res_main_v47
  clean_types
  pointwise
  simp only [mask_one, any_one, ValueIdx.select_one]
  refine Finset.sum_congr rfl fun f _ => congrArg (· * _) (Finset.sum_congr rfl fun j _ => ?_)
  rw [mul_comm]
  rfl

/-- The result at an element, as a sum over the heads. -/
theorem result_at (B : Fin 32) (i : Fin 128) (e : Fin 512) :
    (res_main_v47 m c : Shape.Idx ⟨3, ![32, 128, 512]⟩ → EReal) (ix3 B i e)
      = ∑ h, headOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) B i e h := by
  rw [result_cols, sum_cols]
  simp only [headOf_col, dimOf_col]
  rfl

end Cert.ReferenceIdeal.Value

end
-- ==== Proof.AlgebraKI.lean ====
/-
  The kernel's result is the reference's: each device ends with its two batches of the reference's result.
-/
module

public import proofs.«01_k».proof.Proof.HostKI
public import proofs.«01_k».proof.Proof.RefValue
public import proofs.«01_k».proof.Proof.FramesKI
public import proofs.«01_k».proof.Pre_finite_KernelIdeal
public import proofs.«01_k».proof.Pre_finite_ReferenceIdeal
public import proofs.«01_k».proof.Defs
public import Idealize.ShloMosaic.Lib.LayoutAt

@[expose] public section
set_option maxRecDepth 16384

noncomputable section

namespace Cert.Frames

open Idealize.ShloMosaic Idealize.ShloMosaic.TcCoe Idealize.SL.Sem
open Cert.Attn

/-- The broadcasts of the precondition have the sizes they need. -/
theorem pre_facts : Cert.Pre_finite_KernelIdeal.Facts := by constructor <;> decide
/-- The same of its printing over whole arrays. -/
theorem pre_facts_reference : Cert.Pre_finite_ReferenceIdeal.Facts := by constructor <;> decide

instance : Cert.Pre_finite_KernelIdeal.Facts := pre_facts

section Blocks
variable (c : Dev Cert.KernelIdeal.nD)
open Cert.KernelIdeal.Run (bat ghd lcol)

/-- A device's batches among the whole's. -/
theorem batches_at (x : Shape.Idx ⟨3, ![32, 128, 512]⟩ → EReal) (b : Fin 2) (i : Fin 128) (a : Fin 512) :
    (Layout.block ⟨3, ![2, 128, 512]⟩ ⟨3, ![32, 128, 512]⟩ 0 16 c x : Shape.Idx ⟨3, ![2, 128, 512]⟩ → EReal) (ix3 b i a) = x (ix3 (bat c b) i a) := by
  unfold bat
  shard_ext
/-- Column `t` of the block's head `r` is that column of the owner's head `r` in the whole, -/
theorem columns_at (w : Shape.Idx ⟨2, ![512, 4096]⟩ → EReal) (a : Fin 512) (r : Fin 4) (t : Fin 64) :
    (Layout.block ⟨2, ![512, 256]⟩ ⟨2, ![512, 4096]⟩ 1 16 c w : Shape.Idx ⟨2, ![512, 256]⟩ → EReal) (ix2 a (lcol r t)) = w (ix2 a (col (ghd c r) t)) := by
  unfold col ghd lcol
  shard_ext
/-- and likewise the rows of the output weights. -/
theorem rows_at (w : Shape.Idx ⟨2, ![4096, 512]⟩ → EReal) (r : Fin 4) (d : Fin 64) (e : Fin 512) :
    (Layout.block ⟨2, ![256, 512]⟩ ⟨2, ![4096, 512]⟩ 0 16 c w : Shape.Idx ⟨2, ![256, 512]⟩ → EReal) (ix2 (lcol r d) e) = w (ix2 (col (ghd c r) d) e) := by
  unfold col ghd lcol
  shard_ext
end Blocks

/-- What the precondition says of one element. -/
theorem real_of_bit {y : EReal} (h : BitVec.ofBool (decide (max y (-y) < Ideal.ofBits .bf16 0x7F80#16)) = 1#1) : Real' y := by
  have hb : Ideal.ofBits .bf16 0x7F80#16 = ⊤ := by simp [Ideal.ofBits, Ideal.ieee]
  rw [hb] at h
  apply real_of_lt
  by_contra hn
  rw [decide_eq_false hn] at h
  exact absurd h (by decide)

section Pre
variable {x : FVec Ideal Cert.Pre_finite_KernelIdeal.S2x128x512 .bf16} {wq : FVec Ideal Cert.Pre_finite_KernelIdeal.S512x256 .bf16}
  {k v : FVec Ideal Cert.Pre_finite_KernelIdeal.S32x128x64x64 .bf16} {wo : FVec Ideal Cert.Pre_finite_KernelIdeal.S256x512 .bf16}

/-- So no element of the input is infinite where its bits are all one, -/
theorem real_of_pre0 (h : (Cert.Pre_finite_KernelIdeal.fn (F := Ideal) x wq k v wo).1 = (fun _ => 1#1)) (i) : Real' (x i) := by
  have h' := congrFun h i
  pointwise [Cert.Pre_finite_KernelIdeal.fn] at h'
  exact real_of_bit h'
/-- nor of the query weights, -/
theorem real_of_pre1 (h : (Cert.Pre_finite_KernelIdeal.fn (F := Ideal) x wq k v wo).2.1 = (fun _ => 1#1)) (i) : Real' (wq i) := by
  have h' := congrFun h i
  pointwise [Cert.Pre_finite_KernelIdeal.fn] at h'
  exact real_of_bit h'
/-- nor of the keys. -/
theorem real_of_pre2 (h : (Cert.Pre_finite_KernelIdeal.fn (F := Ideal) x wq k v wo).2.2 = (fun _ => 1#1)) (i) : Real' (k i) := by
  have h' := congrFun h i
  pointwise [Cert.Pre_finite_KernelIdeal.fn] at h'
  exact real_of_bit h'
end Pre

section Result
open Cert.KernelIdeal Cert.KernelIdeal.Gen Cert.KernelIdeal.Run
variable (m : (ℓ : Loc nD τ sig) → Buf (Elt Ideal) ℓ) (c : Dev nD)

/-- The query weights reach the launch as the program was given them. -/
theorem in1_at (o : Dev nD) : in1 (entry m) o = m ((o.tc : Thread nD τ).loc main_arg1) := V1_of m o main_arg1 (by decide)
/-- The output weights are as launched too. -/
theorem in2_at (o : Dev nD) : in2 (entry m) o = m ((o.tc : Thread nD τ).loc main_arg4) := V1_of m o main_arg4 (by decide)

/-- The result on a device, from the launch's output. -/
theorem result_of_launch (b : Fin 2) (i : Fin 128) (e : Fin 512) : (V3 m (outs m) c main_v21 : Shape.Idx ⟨3, ![2, 128, 512]⟩ → EReal) (ix3 b i e)
    = (outD (entry m) c : Shape.Idx ⟨2, ![256, 512]⟩ → EReal) (ix2 (row b i) e) := by
  refine (host21_at (V2 m (outs m) c) b i e).trans ?_
  have h : V2 m (outs m) c main_v20 = outD (entry m) c := by
    rw [left_eq]; exact Function.update_self _ _ _
  exact congrFun h _

variable (x : Shape.Idx ⟨3, ![32, 128, 512]⟩ → EReal) (Wq : Shape.Idx ⟨2, ![512, 4096]⟩ → EReal)
  (Kx Vx : Shape.Idx ⟨4, ![32, 128, 64, 64]⟩ → EReal) (Wo : Shape.Idx ⟨2, ![4096, 512]⟩ → EReal)

/-- From the blocks and copies of whole arrays whose scores' factors are finite, each device's result is its batches of the formula. -/
theorem result_spec
    (h0 : ∀ o : Dev nD, m ((o.tc : Thread nD τ).loc main_arg0) = Layout.block ⟨3, ![2, 128, 512]⟩ ⟨3, ![32, 128, 512]⟩ 0 16 o x)
    (h1 : ∀ o : Dev nD, m ((o.tc : Thread nD τ).loc main_arg1) = Layout.block ⟨2, ![512, 256]⟩ ⟨2, ![512, 4096]⟩ 1 16 o Wq)
    (h2 : ∀ o : Dev nD, m ((o.tc : Thread nD τ).loc main_arg2) = Kx)
    (h3 : ∀ o : Dev nD, m ((o.tc : Thread nD τ).loc main_arg3) = Vx)
    (h4 : ∀ o : Dev nD, m ((o.tc : Thread nD τ).loc main_arg4) = Layout.block ⟨2, ![256, 512]⟩ ⟨2, ![4096, 512]⟩ 0 16 o Wo)
    (hp : Pre_KernelIdeal_finite_KernelIdeal m) (b : Fin 2) (i : Fin 128) (e : Fin 512) :
    (V3 m (outs m) c main_v21 : Shape.Idx ⟨3, ![2, 128, 512]⟩ → EReal) (ix3 b i e) = ∑ h, headOut x Wq Kx Vx Wo (bat c b) i e h := by
  rw [result_of_launch]
  have e0 : ∀ b i a, (m ((c.tc : Thread nD τ).loc main_arg0) : Shape.Idx ⟨3, ![2, 128, 512]⟩ → EReal) (ix3 b i a) = x (ix3 (bat c b) i a) :=
    fun b i a => (congrFun (h0 c) _).trans (batches_at c x b i a)
  have e1 : ∀ (o : Dev nD) a r t, (m ((o.tc : Thread nD τ).loc main_arg1) : Shape.Idx ⟨2, ![512, 256]⟩ → EReal) (ix2 a (lcol r t)) = Wq (ix2 a (col (ghd o r) t)) :=
    fun o a r t => (congrFun (h1 o) _).trans (columns_at o Wq a r t)
  have e4 : ∀ (o : Dev nD) r d e, (m ((o.tc : Thread nD τ).loc main_arg4) : Shape.Idx ⟨2, ![256, 512]⟩ → EReal) (ix2 (lcol r d) e) = Wo (ix2 (col (ghd o r) d) e) :=
    fun o r d e => (congrFun (h4 o) _).trans (rows_at o Wo r d e)
  refine out_at (in1 (entry m)) (in2 (entry m)) (in0 (entry m) c) (in3 (entry m) c) (in4 (entry m) c) x Wq Kx Vx Wo c
    (fun b i a => (host19_at (V0 m c) c b i a).trans (e0 b i a)) (fun o a r t => ?_) (fun o r d e => ?_)
    (fun h b j t => (host16 (V0 m c) c h b j t).trans (congrFun (h2 c) _)) (fun h b j t => (host18 (V0 m c) c h b j t).trans (congrFun (h3 c) _))
    (fun b i a => ?_) (fun q => ?_) (fun q => ?_) b i e
  · rw [in1_at]; exact e1 o a r t
  · rw [in2_at]; exact e4 o r d e
  · rw [← e0]; exact real_of_pre0 (hp c).1 _
  · obtain ⟨a, f, rfl⟩ : ∃ (a : Fin 512) (f : Fin 4096), q = ix2 a f := ⟨q 0, q 1, eq_ix2 q⟩
    have hf : f = col (ghd (⟨f.val / 256, by change _ < 16; omega⟩ : Dev nD) ⟨f.val / 64 % 4, by omega⟩) ⟨f.val % 64, by omega⟩ :=
      Fin.ext (by simp only [col, ghd]; omega)
    rw [hf, ← e1]; exact real_of_pre1 (hp _).2.1 _
  · rw [← h2 c]; exact real_of_pre2 (hp c).2.2 _
end Result

/-- The kernel leaves on every device its two batches of what the reference leaves, over the extended reals. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := pre_facts) := by
  intro m g m' g' hp hm
  refine ⟨Cert.ReferenceIdeal.Value.res_main_v47 m' 0, ?_, ?_⟩
  · refine (θ_run Cert.KernelIdeal.defs _ _).mono (fun r h c => ?_) (Cert.KernelIdeal.Run.run_main m g)
    obtain ⟨⟨a0, a1, a2, a3, a4⟩, hv, -⟩ := h.1 c
    refine ⟨hv.trans (funext fun j => ?_), a0, a1, a2, a3, a4⟩
    obtain ⟨b, i, e, rfl⟩ : ∃ (b : Fin 2) (i : Fin 128) (e : Fin 512), j = ix3 b i e := ⟨j 0, j 1, j 2, eq_ix3 j⟩
    refine (result_spec m c _ _ _ _ _ (fun o => (hm o).1) (fun o => (hm o).2.1) (fun o => (hm o).2.2.1) (fun o => (hm o).2.2.2.1) (fun o => (hm o).2.2.2.2) hp b i e).trans ?_
    exact ((batches_at c _ b i e).trans (Cert.ReferenceIdeal.Value.result_at m' 0 _ i e)).symm
  · exact (θ_run Cert.ReferenceIdeal.defs _ _).mono (fun r h => h 0) (Cert.ReferenceIdeal.Value.run m' g')

/-- The idealized kernel's frame holds of every memory, so of those that meet the precondition, -/
theorem ideal_finite : Cert.quiescent_KernelIdeal_pre_finite_KernelIdeal (hPre_finite_KernelIdeal := pre_facts) := fun m g _ => ideal m g trivial
/-- and so does the reference's. -/
theorem reference_finite : Cert.quiescent_ReferenceIdeal_pre_finite_ReferenceIdeal (hPre_finite_ReferenceIdeal := pre_facts_reference) :=
  fun m g _ => reference m g trivial

end Cert.Frames

end
-- ==== Proof.lean ====
/-
  The proof of the certificate's claim.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.FramesKI
public import proofs.«01_k».proof.Proof.AlgebraKI

@[expose] public section

noncomputable section

/-- Every claim of the certificate. -/
theorem Cert.Proof.claim : Cert.Claim :=
  ⟨Cert.Kernel.Gen.facts, Cert.KernelIdeal.Gen.facts, Cert.ReferenceIdeal.Gen.facts, Cert.Frames.pre_facts, Cert.Frames.pre_facts_reference,
    Cert.Frames.kernel, Cert.Frames.ideal, Cert.Frames.ideal_finite, Cert.Frames.reference, Cert.Frames.reference_finite, Cert.Frames.preserved,
    Cert.Frames.algebraic⟩

end
